-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_depth_below_infinity [hPre_depth_below_infinity : Cert.Pre_depth_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_depth_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_depth_below_infinity [hPre_depth_below_infinity : Cert.Pre_depth_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_depth_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_depth_below_infinity [hKernelIdeal : Cert.KernelIdeal.Facts] [hPre_depth_below_infinity : Cert.Pre_depth_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depth_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_depth_below_infinity [hReferenceIdeal : Cert.ReferenceIdeal.Facts] [hPre_depth_below_infinity : Cert.Pre_depth_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_depth_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "step" .f32 0x3B9DEB07#32 ((2 / 415 : ℝ) : EReal)

def algebraic_KernelIdeal_ReferenceIdeal_pre_depth_below_infinity [hKernelIdeal : Cert.KernelIdeal.Facts] [hReferenceIdeal : Cert.ReferenceIdeal.Facts] [hPre_depth_below_infinity : Cert.Pre_depth_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_depth_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_depth_below_infinity : Cert.Pre_depth_below_infinity.Facts),
    quiescent_Kernel (hKernel := hKernel)
    ∧ quiescent_KernelIdeal (hKernelIdeal := hKernelIdeal)
    ∧ quiescent_KernelIdeal_pre_depth_below_infinity (hKernelIdeal := hKernelIdeal) (hPre_depth_below_infinity := hPre_depth_below_infinity)
    ∧ quiescent_ReferenceIdeal (hReferenceIdeal := hReferenceIdeal)
    ∧ quiescent_ReferenceIdeal_pre_depth_below_infinity (hReferenceIdeal := hReferenceIdeal) (hPre_depth_below_infinity := hPre_depth_below_infinity)
    ∧ preserves_Kernel_KernelIdeal
    ∧ algebraic_KernelIdeal_ReferenceIdeal_pre_depth_below_infinity (hKernelIdeal := hKernelIdeal) (hReferenceIdeal := hReferenceIdeal) (hPre_depth_below_infinity := hPre_depth_below_infinity)
-- ==== Pre_depth_below_infinity.lean ====
abbrev S4x8x4 : Shape := ⟨3, ![4, 8, 4]⟩
abbrev S4x8x1 : Shape := ⟨3, ![4, 8, 1]⟩
abbrev S4x8x64 : Shape := ⟨3, ![4, 8, 64]⟩
abbrev S64x128 : Shape := ⟨2, ![64, 128]⟩
abbrev S128 : Shape := ⟨1, ![128]⟩
abbrev S128x12288 : Shape := ⟨2, ![128, 12288]⟩
abbrev S12288 : Shape := ⟨1, ![12288]⟩
abbrev S_ : Shape := ⟨0, ![]⟩

class Facts : Prop where
  bcast_S_S4x8x1 : S_.BroadcastsInDim S4x8x1 (![] : Fin 0 → Fin S4x8x1.rank)
  reducesTo_S4x8x1_S_d0_1_2 : S4x8x1.ReducesTo [0, 1, 2] S_
  h_S_ : 0 < S_.numel

variable [Facts]

def fn {F : FTy → Type} [FloatOps F] (main_arg0 : FVec F S4x8x4 .f32) (main_arg1 : FVec F S4x8x1 .f32) (main_arg2 : FVec F S4x8x64 .f32) (main_arg3 : FVec F S4x8x1 .f32) (main_arg4 : FVec F S64x128 .f32) (main_arg5 : FVec F S128 .f32) (main_arg6 : FVec F S128x12288 .f32) (main_arg7 : FVec F S12288 .f32) : IVec S_ 1 :=
  let main_cst : FVec F S_ .f32 := constant S_ .f32 0x7F800000#32
  let main_v0 : FVec F S4x8x1 .f32 := broadcastInDim S4x8x1 ![] bcast_S_S4x8x1 main_cst
  let main_v1 : IVec S4x8x1 1 := cmpf .olt main_arg3 main_v0
  let main_c : IVec S_ 1 := constantI S_ 1 1#1
  let main_v2 : IVec S_ 1 := (fun x v => Host.reduce IntOp.andi x v reducesTo_S4x8x1_S_d0_1_2 h_S_) main_v1 main_c
  main_v2
-- ==== Kernel.lean ====
abbrev S4x8x4 : Shape := ⟨3, ![4, 8, 4]⟩
abbrev S4x8x1 : Shape := ⟨3, ![4, 8, 1]⟩
abbrev S4x8x64 : Shape := ⟨3, ![4, 8, 64]⟩
abbrev S64x128 : Shape := ⟨2, ![64, 128]⟩
abbrev S128 : Shape := ⟨1, ![128]⟩
abbrev S128x12288 : Shape := ⟨2, ![128, 12288]⟩
abbrev S12288 : Shape := ⟨1, ![12288]⟩
abbrev S32x64 : Shape := ⟨2, ![32, 64]⟩
abbrev S1x128 : Shape := ⟨2, ![1, 128]⟩
abbrev S1x12288 : Shape := ⟨2, ![1, 12288]⟩
abbrev S4x8 : Shape := ⟨2, ![4, 8]⟩
abbrev S32x12288 : Shape := ⟨2, ![32, 12288]⟩
abbrev S96x64x64 : Shape := ⟨3, ![96, 64, 64]⟩
abbrev S32x4 : Shape := ⟨2, ![32, 4]⟩
abbrev S4x3x416x416 : Shape := ⟨4, ![4, 3, 416, 416]⟩
abbrev S32x128 : Shape := ⟨2, ![32, 128]⟩
abbrev S4 : Shape := ⟨1, ![4]⟩
abbrev S4x1 : Shape := ⟨2, ![4, 1]⟩
abbrev S24x64x64 : Shape := ⟨3, ![24, 64, 64]⟩
abbrev S1x3x416x416 : Shape := ⟨4, ![1, 3, 416, 416]⟩
abbrev S3x416x1024 : Shape := ⟨3, ![3, 416, 1024]⟩
abbrev S416x1024 : Shape := ⟨2, ![416, 1024]⟩
abbrev S416x64 : Shape := ⟨2, ![416, 64]⟩
abbrev S1x1 : Shape := ⟨2, ![1, 1]⟩
abbrev S1x64x64 : Shape := ⟨3, ![1, 64, 64]⟩
abbrev S64x64 : Shape := ⟨2, ![64, 64]⟩
abbrev S1x416x64 : Shape := ⟨3, ![1, 416, 64]⟩
abbrev S1x416x1024 : Shape := ⟨3, ![1, 416, 1024]⟩
abbrev S416x416 : Shape := ⟨2, ![416, 416]⟩
abbrev S1x1x416x416 : Shape := ⟨4, ![1, 1, 416, 416]⟩

abbrev nBuf : Space → Nat
  | .hbm => 17
  | .vmem => 14
  | .smem => 2
  | _ => 0

abbrev bufTy : (tb : Table) → Fin (tcTables nBuf tb) → BufTy
  | .hbm, ⟨0, _⟩ => ⟨S4x8x4, .f32⟩
  | .hbm, ⟨1, _⟩ => ⟨S4x8x1, .f32⟩
  | .hbm, ⟨2, _⟩ => ⟨S4x8x64, .f32⟩
  | .hbm, ⟨3, _⟩ => ⟨S4x8x1, .f32⟩
  | .hbm, ⟨4, _⟩ => ⟨S64x128, .f32⟩
  | .hbm, ⟨5, _⟩ => ⟨S128, .f32⟩
  | .hbm, ⟨6, _⟩ => ⟨S128x12288, .f32⟩
  | .hbm, ⟨7, _⟩ => ⟨S12288, .f32⟩
  | .hbm, ⟨8, _⟩ => ⟨S32x64, .f32⟩
  | .hbm, ⟨9, _⟩ => ⟨S1x128, .f32⟩
  | .hbm, ⟨10, _⟩ => ⟨S1x12288, .f32⟩
  | .hbm, ⟨11, _⟩ => ⟨S4x8, .f32⟩
  | .hbm, ⟨12, _⟩ => ⟨S32x12288, .f32⟩
  | .hbm, ⟨13, _⟩ => ⟨S4x8, .f32⟩
  | .hbm, ⟨14, _⟩ => ⟨S96x64x64, .f32⟩
  | .hbm, ⟨15, _⟩ => ⟨S32x4, .f32⟩
  | .hbm, ⟨16, _⟩ => ⟨S4x3x416x416, .f32⟩
  | .local _ .vmem, ⟨0, _⟩ => ⟨S32x64, .f32⟩
  | .local _ .vmem, ⟨1, _⟩ => ⟨S64x128, .f32⟩
  | .local _ .vmem, ⟨2, _⟩ => ⟨S1x128, .f32⟩
  | .local _ .vmem, ⟨3, _⟩ => ⟨S128x12288, .f32⟩
  | .local _ .vmem, ⟨4, _⟩ => ⟨S1x12288, .f32⟩
  | .local _ .vmem, ⟨5, _⟩ => ⟨S4x8, .f32⟩
  | .local _ .vmem, ⟨6, _⟩ => ⟨S32x12288, .f32⟩
  | .local _ .vmem, ⟨7, _⟩ => ⟨S4x8, .f32⟩
  | .local _ .vmem, ⟨8, _⟩ => ⟨S24x64x64, .f32⟩
  | .local _ .vmem, ⟨9, _⟩ => ⟨S24x64x64, .f32⟩
  | .local _ .vmem, ⟨10, _⟩ => ⟨S1x3x416x416, .f32⟩
  | .local _ .vmem, ⟨11, _⟩ => ⟨S1x3x416x416, .f32⟩
  | .local _ .vmem, ⟨12, _⟩ => ⟨S3x416x1024, .f32⟩
  | .local _ .vmem, ⟨13, _⟩ => ⟨S416x1024, .f32⟩
  | .local _ .smem, ⟨0, _⟩ => ⟨S32x4, .f32⟩
  | .local _ .smem, ⟨1, _⟩ => ⟨S4x8, .f32⟩
  | _, _ => ⟨S4x8x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4_0 : Ref sig .tc := ⟨.hbm, 12, rfl⟩
abbrev main_call0_v4_1 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![4], ![false]⟩

def k1_off1 (i : grid1.Coords) (c0_i32_2 : BitVec 32) : Fin 2 → Nat :=
  let arg0 : BitVec 32 := BitVec.ofNat 32 (i 0).val
  let c8_i32 : BitVec 32 := 8#32
  let v11 : BitVec 32 := Scalar.muli arg0 c8_i32
  let v12 : BitVec 32 := Scalar.addi v11 c0_i32_2
  let v13 : Index := Scalar.indexCast v12
  let c0 : Index := 0#32
  ![v13.toNat, 0]
def k1_off2 (i : grid1.Coords) (c0_i32_2 : BitVec 32) : Fin 2 → Nat :=
  let arg0 : BitVec 32 := BitVec.ofNat 32 (i 0).val
  let c8_i32 : BitVec 32 := 8#32
  let v11 : BitVec 32 := Scalar.muli arg0 c8_i32
  let v12 : BitVec 32 := Scalar.addi v11 c0_i32_2
  let v17 : Index := Scalar.indexCast v12
  let c1 : Index := 1#32
  ![v17.toNat, 1]
def k1_off3 (i : grid1.Coords) (c0_i32_2 : BitVec 32) : Fin 2 → Nat :=
  let arg0 : BitVec 32 := BitVec.ofNat 32 (i 0).val
  let c8_i32 : BitVec 32 := 8#32
  let v11 : BitVec 32 := Scalar.muli arg0 c8_i32
  let v12 : BitVec 32 := Scalar.addi v11 c0_i32_2
  let v21 : Index := Scalar.indexCast v12
  let c2 : Index := 2#32
  ![v21.toNat, 2]
def k1_off4 (i : grid1.Coords) (c0_i32_2 : BitVec 32) : Fin 2 → Nat :=
  let arg0 : BitVec 32 := BitVec.ofNat 32 (i 0).val
  let c8_i32 : BitVec 32 := 8#32
  let v11 : BitVec 32 := Scalar.muli arg0 c8_i32
  let v12 : BitVec 32 := Scalar.addi v11 c0_i32_2
  let v24 : Index := Scalar.indexCast v12
  let c3 : Index := 3#32
  ![v24.toNat, 3]
def k1_off5 (i : grid1.Coords) : Fin 2 → Nat :=
  let arg0 : BitVec 32 := BitVec.ofNat 32 (i 0).val
  let v27 : Index := Scalar.indexCast arg0
  let c0_9 : Index := 0#32
  ![v27.toNat, 0]
def k1_off6 (i : grid1.Coords) : Fin 2 → Nat :=
  let arg0 : BitVec 32 := BitVec.ofNat 32 (i 0).val
  let v100 : Index := Scalar.indexCast arg0
  let c1_56 : Index := 1#32
  ![v100.toNat, 1]
def k1_off7 (i : grid1.Coords) : Fin 2 → Nat :=
  let arg0 : BitVec 32 := BitVec.ofNat 32 (i 0).val
  let v173 : Index := Scalar.indexCast arg0
  let c2_100 : Index := 2#32
  ![v173.toNat, 2]
def k1_off8 (i : grid1.Coords) : Fin 2 → Nat :=
  let arg0 : BitVec 32 := BitVec.ofNat 32 (i 0).val
  let v246 : Index := Scalar.indexCast arg0
  let c3_143 : Index := 3#32
  ![v246.toNat, 3]
def k1_off9 (i : grid1.Coords) : Fin 2 → Nat :=
  let arg0 : BitVec 32 := BitVec.ofNat 32 (i 0).val
  let v319 : Index := Scalar.indexCast arg0
  let c4_186 : Index := 4#32
  ![v319.toNat, 4]
def k1_off10 (i : grid1.Coords) : Fin 2 → Nat :=
  let arg0 : BitVec 32 := BitVec.ofNat 32 (i 0).val
  let v392 : Index := Scalar.indexCast arg0
  let c5_229 : Index := 5#32
  ![v392.toNat, 5]
def k1_off11 (i : grid1.Coords) : Fin 2 → Nat :=
  let arg0 : BitVec 32 := BitVec.ofNat 32 (i 0).val
  let v465 : Index := Scalar.indexCast arg0
  let c6_272 : Index := 6#32
  ![v465.toNat, 6]
def k1_off12 (i : grid1.Coords) : Fin 2 → Nat :=
  let arg0 : BitVec 32 := BitVec.ofNat 32 (i 0).val
  let v538 : Index := Scalar.indexCast arg0
  let c7_315 : Index := 7#32
  ![v538.toNat, 7]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S32x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S4x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S24x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x416x416 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "step" => some ((2 / 415 : ℝ) : EReal)
  | _ => none
-- ==== ReferenceIdeal.lean ====
abbrev S4x8x4 : Shape := ⟨3, ![4, 8, 4]⟩
abbrev S4x8x1 : Shape := ⟨3, ![4, 8, 1]⟩
abbrev S4x8x64 : Shape := ⟨3, ![4, 8, 64]⟩
abbrev S64x128 : Shape := ⟨2, ![64, 128]⟩
abbrev S128 : Shape := ⟨1, ![128]⟩
abbrev S128x12288 : Shape := ⟨2, ![128, 12288]⟩
abbrev S12288 : Shape := ⟨1, ![12288]⟩
abbrev S36 : Shape := ⟨1, ![36]⟩
abbrev S32x4 : Shape := ⟨2, ![32, 4]⟩
abbrev S32x64 : Shape := ⟨2, ![32, 64]⟩
abbrev S32x1 : Shape := ⟨2, ![32, 1]⟩
abbrev S32x128 : Shape := ⟨2, ![32, 128]⟩
abbrev S1x128 : Shape := ⟨2, ![1, 128]⟩
abbrev S_ : Shape := ⟨0, ![]⟩
abbrev S32x12288 : Shape := ⟨2, ![32, 12288]⟩
abbrev S1x12288 : Shape := ⟨2, ![1, 12288]⟩
abbrev S32x3x64x64 : Shape := ⟨4, ![32, 3, 64, 64]⟩
abbrev S32x2 : Shape := ⟨2, ![32, 2]⟩
abbrev S415 : Shape := ⟨1, ![415]⟩
abbrev S1 : Shape := ⟨1, ![1]⟩
abbrev S416 : Shape := ⟨1, ![416]⟩
abbrev S416x416 : Shape := ⟨2, ![416, 416]⟩
abbrev S1x416x416 : Shape := ⟨3, ![1, 416, 416]⟩
abbrev S32 : Shape := ⟨1, ![32]⟩
abbrev S32x1x1 : Shape := ⟨3, ![32, 1, 1]⟩
abbrev S32x416x416 : Shape := ⟨3, ![32, 416, 416]⟩
abbrev S32x416x416x1 : Shape := ⟨4, ![32, 416, 416, 1]⟩
abbrev S32x416x416x2 : Shape := ⟨4, ![32, 416, 416, 2]⟩
abbrev S32x416x416x3 : Shape := ⟨4, ![32, 416, 416, 3]⟩
abbrev S32x3x416x416 : Shape := ⟨4, ![32, 3, 416, 416]⟩
abbrev S1x3x416x416 : Shape := ⟨4, ![1, 3, 416, 416]⟩
abbrev S1x1 : Shape := ⟨2, ![1, 1]⟩
abbrev S33x3x416x416 : Shape := ⟨4, ![33, 3, 416, 416]⟩
abbrev S33x1 : Shape := ⟨2, ![33, 1]⟩
abbrev S36x1 : Shape := ⟨2, ![36, 1]⟩
abbrev S36x3x416x416 : Shape := ⟨4, ![36, 3, 416, 416]⟩
abbrev S4x9x3x416x416 : Shape := ⟨5, ![4, 9, 3, 416, 416]⟩
abbrev S4x9x1 : Shape := ⟨3, ![4, 9, 1]⟩
abbrev S4x1 : Shape := ⟨2, ![4, 1]⟩
abbrev S4x1x1 : Shape := ⟨3, ![4, 1, 1]⟩
abbrev S4x9x1x1x1 : Shape := ⟨5, ![4, 9, 1, 1, 1]⟩
abbrev S4x3x416x416 : Shape := ⟨4, ![4, 3, 416, 416]⟩

abbrev nBuf : Space → Nat
  | .hbm => 462
  | .vmem => 0
  | .smem => 0
  | _ => 0

abbrev hbmTy0_0 (i : Nat) : BufTy := match i % 128 with
  | 0 => ⟨S4x8x4, .f32⟩
  | 1 => ⟨S4x8x1, .f32⟩
  | 2 => ⟨S4x8x64, .f32⟩
  | 3 => ⟨S4x8x1, .f32⟩
  | 4 => ⟨S64x128, .f32⟩
  | 5 => ⟨S128, .f32⟩
  | 6 => ⟨S128x12288, .f32⟩
  | 7 => ⟨S12288, .f32⟩
  | 8 => ⟨S36, .i32⟩
  | 9 => ⟨S32x4, .f32⟩
  | 10 => ⟨S32x64, .f32⟩
  | 11 => ⟨S32x1, .f32⟩
  | 12 => ⟨S32x128, .f32⟩
  | 13 => ⟨S1x128, .f32⟩
  | 14 => ⟨S32x128, .f32⟩
  | 15 => ⟨S32x128, .f32⟩
  | 16 => ⟨S_, .f32⟩
  | 17 => ⟨S32x128, .f32⟩
  | 18 => ⟨S32x128, .f32⟩
  | 19 => ⟨S32x12288, .f32⟩
  | 20 => ⟨S1x12288, .f32⟩
  | 21 => ⟨S32x12288, .f32⟩
  | 22 => ⟨S32x12288, .f32⟩
  | 23 => ⟨S32x12288, .f32⟩
  | 24 => ⟨S32x12288, .f32⟩
  | 25 => ⟨S_, .f32⟩
  | 26 => ⟨S32x12288, .f32⟩
  | 27 => ⟨S32x12288, .f32⟩
  | 28 => ⟨S_, .f32⟩
  | 29 => ⟨S32x12288, .f32⟩
  | 30 => ⟨S32x12288, .f32⟩
  | 31 => ⟨S32x3x64x64, .f32⟩
  | 32 => ⟨S32x2, .f32⟩
  | 33 => ⟨S_, .f32⟩
  | 34 => ⟨S32x2, .f32⟩
  | 35 => ⟨S32x2, .f32⟩
  | 36 => ⟨S_, .f32⟩
  | 37 => ⟨S32x2, .f32⟩
  | 38 => ⟨S32x2, .f32⟩
  | 39 => ⟨S32x2, .f32⟩
  | 40 => ⟨S_, .f32⟩
  | 41 => ⟨S32x2, .f32⟩
  | 42 => ⟨S32x2, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S415, .f32⟩
  | 51 => ⟨S_, .f32⟩
  | 52 => ⟨S415, .f32⟩
  | 53 => ⟨S415, .f32⟩
  | 54 => ⟨S1, .f32⟩
  | 55 => ⟨S_, .f32⟩
  | 56 => ⟨S415, .f32⟩
  | 57 => ⟨S415, .f32⟩
  | 58 => ⟨S415, .f32⟩
  | 59 => ⟨S415, .f32⟩
  | 60 => ⟨S1, .f32⟩
  | 61 => ⟨S415, .f32⟩
  | 62 => ⟨S415, .f32⟩
  | 63 => ⟨S415, .f32⟩
  | 64 => ⟨S1, .f32⟩
  | 65 => ⟨S416, .f32⟩
  | 66 => ⟨S416x416, .f32⟩
  | 67 => ⟨S416x416, .f32⟩
  | 68 => ⟨S1x416x416, .f32⟩
  | 69 => ⟨S32x1, .f32⟩
  | 70 => ⟨S32, .f32⟩
  | 71 => ⟨S32x1x1, .f32⟩
  | 72 => ⟨S32x416x416, .f32⟩
  | 73 => ⟨S32x416x416, .f32⟩
  | 74 => ⟨S32x416x416, .f32⟩
  | 75 => ⟨S32x1, .f32⟩
  | 76 => ⟨S32, .f32⟩
  | 77 => ⟨S32x1x1, .f32⟩
  | 78 => ⟨S32x416x416, .f32⟩
  | 79 => ⟨S32x416x416, .f32⟩
  | 80 => ⟨S1x416x416, .f32⟩
  | 81 => ⟨S32x1, .f32⟩
  | 82 => ⟨S32, .f32⟩
  | 83 => ⟨S32x1x1, .f32⟩
  | 84 => ⟨S32x416x416, .f32⟩
  | 85 => ⟨S32x416x416, .f32⟩
  | 86 => ⟨S32x416x416, .f32⟩
  | 87 => ⟨S32x1, .f32⟩
  | 88 => ⟨S32, .f32⟩
  | 89 => ⟨S32x1x1, .f32⟩
  | 90 => ⟨S32x416x416, .f32⟩
  | 91 => ⟨S32x416x416, .f32⟩
  | 92 => ⟨S32x416x416x1, .f32⟩
  | 93 => ⟨S32x416x416x1, .f32⟩
  | 94 => ⟨S32x416x416x2, .f32⟩
  | 95 => ⟨S32x416x416x1, .f32⟩
  | 96 => ⟨S32x416x416, .f32⟩
  | 97 => ⟨S_, .f32⟩
  | 98 => ⟨S32x416x416, .f32⟩
  | 99 => ⟨S32x416x416, .f32⟩
  | 100 => ⟨S_, .f32⟩
  | 101 => ⟨S32x416x416, .f32⟩
  | 102 => ⟨S32x416x416, .f32⟩
  | 103 => ⟨S_, .f32⟩
  | 104 => ⟨S32x416x416, .f32⟩
  | 105 => ⟨S32x416x416, .f32⟩
  | 106 => ⟨S_, .f32⟩
  | 107 => ⟨S32x416x416, .f32⟩
  | 108 => ⟨S32x416x416, .f32⟩
  | 109 => ⟨S32x416x416x1, .f32⟩
  | 110 => ⟨S32x416x416, .f32⟩
  | 111 => ⟨S_, .f32⟩
  | 112 => ⟨S32x416x416, .f32⟩
  | 113 => ⟨S32x416x416, .f32⟩
  | 114 => ⟨S_, .f32⟩
  | 115 => ⟨S32x416x416, .f32⟩
  | 116 => ⟨S32x416x416, .f32⟩
  | 117 => ⟨S_, .f32⟩
  | 118 => ⟨S32x416x416, .f32⟩
  | 119 => ⟨S32x416x416, .f32⟩
  | 120 => ⟨S_, .f32⟩
  | 121 => ⟨S32x416x416, .f32⟩
  | 122 => ⟨S32x416x416, .f32⟩
  | 123 => ⟨S32x416x416, .f32⟩
  | 124 => ⟨S_, .f32⟩
  | 125 => ⟨S32x416x416, .f32⟩
  | 126 => ⟨S32x416x416, .f32⟩
  | 127 => ⟨S32x416x416, .f32⟩
  | _ => ⟨S4x8x4, .f32⟩

abbrev hbmTy0_1 (i : Nat) : BufTy := match i % 128 with
  | 0 => ⟨S_, .f32⟩
  | 1 => ⟨S32x416x416, .f32⟩
  | 2 => ⟨S32x416x416, .f32⟩
  | 3 => ⟨S32x416x416, .f32⟩
  | 4 => ⟨S_, .f32⟩
  | 5 => ⟨S32x416x416, .f32⟩
  | 6 => ⟨S32x416x416, .f32⟩
  | 7 => ⟨S32x416x416, .f32⟩
  | 8 => ⟨S_, .f32⟩
  | 9 => ⟨S32x416x416, .f32⟩
  | 10 => ⟨S32x416x416, .f32⟩
  | 11 => ⟨S32, .i32⟩
  | 12 => ⟨S32x1x1, .i32⟩
  | 13 => ⟨S_, .f32⟩
  | 14 => ⟨S32x416x416, .f32⟩
  | 15 => ⟨S32x416x416, .i1⟩
  | 16 => ⟨S_, .f32⟩
  | 17 => ⟨S32x416x416, .f32⟩
  | 18 => ⟨S32x416x416, .i1⟩
  | 19 => ⟨S32x416x416, .i1⟩
  | 20 => ⟨S_, .f32⟩
  | 21 => ⟨S32x416x416, .f32⟩
  | 22 => ⟨S32x416x416, .i1⟩
  | 23 => ⟨S32x416x416, .i1⟩
  | 24 => ⟨S_, .f32⟩
  | 25 => ⟨S32x416x416, .f32⟩
  | 26 => ⟨S32x416x416, .i1⟩
  | 27 => ⟨S32x416x416, .i1⟩
  | 28 => ⟨S_, .i32⟩
  | 29 => ⟨S_, .i32⟩
  | 30 => ⟨S_, .f32⟩
  | 31 => ⟨S32x416x416, .f32⟩
  | 32 => ⟨S32x416x416, .f32⟩
  | 33 => ⟨S_, .f32⟩
  | 34 => ⟨S32x416x416, .f32⟩
  | 35 => ⟨S32x416x416, .f32⟩
  | 36 => ⟨S32x416x416, .i32⟩
  | 37 => ⟨S_, .i32⟩
  | 38 => ⟨S_, .i32⟩
  | 39 => ⟨S_, .f32⟩
  | 40 => ⟨S32x416x416, .f32⟩
  | 41 => ⟨S32x416x416, .f32⟩
  | 42 => ⟨S_, .f32⟩
  | 43 => ⟨S32x416x416, .f32⟩
  | 44 => ⟨S32x416x416, .f32⟩
  | 45 => ⟨S32x416x416, .i32⟩
  | 46 => ⟨S_, .i32⟩
  | 47 => ⟨S32x1x1, .i32⟩
  | 48 => ⟨S32x1x1, .i1⟩
  | 49 => ⟨S_, .i32⟩
  | 50 => ⟨S32x1x1, .i32⟩
  | 51 => ⟨S32x1x1, .i32⟩
  | 52 => ⟨S32x1x1, .i32⟩
  | 53 => ⟨S_, .i32⟩
  | 54 => ⟨S32x416x416, .i32⟩
  | 55 => ⟨S32x416x416, .i1⟩
  | 56 => ⟨S_, .i32⟩
  | 57 => ⟨S32x416x416, .i32⟩
  | 58 => ⟨S32x416x416, .i32⟩
  | 59 => ⟨S32x416x416, .i32⟩
  | 60 => ⟨S_, .i32⟩
  | 61 => ⟨S32x416x416, .i32⟩
  | 62 => ⟨S32x416x416, .i1⟩
  | 63 => ⟨S_, .i32⟩
  | 64 => ⟨S32x416x416, .i32⟩
  | 65 => ⟨S32x416x416, .i32⟩
  | 66 => ⟨S32x416x416, .i32⟩
  | 67 => ⟨S32x416x416, .i32⟩
  | 68 => ⟨S32x416x416x1, .i32⟩
  | 69 => ⟨S32x416x416x1, .i32⟩
  | 70 => ⟨S32x416x416x1, .i32⟩
  | 71 => ⟨S32x416x416x3, .i32⟩
  | 72 => ⟨S32x416x416x3, .f32⟩
  | 73 => ⟨S32x416x416x1, .i1⟩
  | 74 => ⟨S32x416x416x1, .f32⟩
  | 75 => ⟨S32x416x416x3, .f32⟩
  | 76 => ⟨S32x416x416x3, .f32⟩
  | 77 => ⟨S_, .f32⟩
  | 78 => ⟨S32x416x416, .f32⟩
  | 79 => ⟨S32x416x416, .i1⟩
  | 80 => ⟨S_, .f32⟩
  | 81 => ⟨S32x416x416, .f32⟩
  | 82 => ⟨S32x416x416, .i1⟩
  | 83 => ⟨S32x416x416, .i1⟩
  | 84 => ⟨S_, .f32⟩
  | 85 => ⟨S32x416x416, .f32⟩
  | 86 => ⟨S32x416x416, .i1⟩
  | 87 => ⟨S32x416x416, .i1⟩
  | 88 => ⟨S_, .f32⟩
  | 89 => ⟨S32x416x416, .f32⟩
  | 90 => ⟨S32x416x416, .i1⟩
  | 91 => ⟨S32x416x416, .i1⟩
  | 92 => ⟨S_, .i32⟩
  | 93 => ⟨S_, .i32⟩
  | 94 => ⟨S_, .f32⟩
  | 95 => ⟨S32x416x416, .f32⟩
  | 96 => ⟨S32x416x416, .f32⟩
  | 97 => ⟨S_, .f32⟩
  | 98 => ⟨S32x416x416, .f32⟩
  | 99 => ⟨S32x416x416, .f32⟩
  | 100 => ⟨S32x416x416, .i32⟩
  | 101 => ⟨S_, .i32⟩
  | 102 => ⟨S_, .i32⟩
  | 103 => ⟨S_, .f32⟩
  | 104 => ⟨S32x416x416, .f32⟩
  | 105 => ⟨S32x416x416, .f32⟩
  | 106 => ⟨S_, .f32⟩
  | 107 => ⟨S32x416x416, .f32⟩
  | 108 => ⟨S32x416x416, .f32⟩
  | 109 => ⟨S32x416x416, .i32⟩
  | 110 => ⟨S_, .i32⟩
  | 111 => ⟨S32x1x1, .i32⟩
  | 112 => ⟨S32x1x1, .i1⟩
  | 113 => ⟨S_, .i32⟩
  | 114 => ⟨S32x1x1, .i32⟩
  | 115 => ⟨S32x1x1, .i32⟩
  | 116 => ⟨S32x1x1, .i32⟩
  | 117 => ⟨S_, .i32⟩
  | 118 => ⟨S32x416x416, .i32⟩
  | 119 => ⟨S32x416x416, .i1⟩
  | 120 => ⟨S_, .i32⟩
  | 121 => ⟨S32x416x416, .i32⟩
  | 122 => ⟨S32x416x416, .i32⟩
  | 123 => ⟨S32x416x416, .i32⟩
  | 124 => ⟨S_, .i32⟩
  | 125 => ⟨S32x416x416, .i32⟩
  | 126 => ⟨S32x416x416, .i1⟩
  | 127 => ⟨S_, .i32⟩
  | _ => ⟨S4x8x4, .f32⟩

abbrev hbmTy0_2 (i : Nat) : BufTy := match i % 128 with
  | 0 => ⟨S32x416x416, .i32⟩
  | 1 => ⟨S32x416x416, .i32⟩
  | 2 => ⟨S32x416x416, .i32⟩
  | 3 => ⟨S32x416x416, .i32⟩
  | 4 => ⟨S32x416x416x1, .i32⟩
  | 5 => ⟨S32x416x416x1, .i32⟩
  | 6 => ⟨S32x416x416x1, .i32⟩
  | 7 => ⟨S32x416x416x3, .i32⟩
  | 8 => ⟨S32x416x416x3, .f32⟩
  | 9 => ⟨S32x416x416x1, .i1⟩
  | 10 => ⟨S32x416x416x1, .f32⟩
  | 11 => ⟨S32x416x416x3, .f32⟩
  | 12 => ⟨S32x416x416x3, .f32⟩
  | 13 => ⟨S_, .f32⟩
  | 14 => ⟨S32x416x416, .f32⟩
  | 15 => ⟨S32x416x416, .i1⟩
  | 16 => ⟨S_, .f32⟩
  | 17 => ⟨S32x416x416, .f32⟩
  | 18 => ⟨S32x416x416, .i1⟩
  | 19 => ⟨S32x416x416, .i1⟩
  | 20 => ⟨S_, .f32⟩
  | 21 => ⟨S32x416x416, .f32⟩
  | 22 => ⟨S32x416x416, .i1⟩
  | 23 => ⟨S32x416x416, .i1⟩
  | 24 => ⟨S_, .f32⟩
  | 25 => ⟨S32x416x416, .f32⟩
  | 26 => ⟨S32x416x416, .i1⟩
  | 27 => ⟨S32x416x416, .i1⟩
  | 28 => ⟨S_, .i32⟩
  | 29 => ⟨S_, .i32⟩
  | 30 => ⟨S_, .f32⟩
  | 31 => ⟨S32x416x416, .f32⟩
  | 32 => ⟨S32x416x416, .f32⟩
  | 33 => ⟨S_, .f32⟩
  | 34 => ⟨S32x416x416, .f32⟩
  | 35 => ⟨S32x416x416, .f32⟩
  | 36 => ⟨S32x416x416, .i32⟩
  | 37 => ⟨S_, .i32⟩
  | 38 => ⟨S_, .i32⟩
  | 39 => ⟨S_, .f32⟩
  | 40 => ⟨S32x416x416, .f32⟩
  | 41 => ⟨S32x416x416, .f32⟩
  | 42 => ⟨S_, .f32⟩
  | 43 => ⟨S32x416x416, .f32⟩
  | 44 => ⟨S32x416x416, .f32⟩
  | 45 => ⟨S32x416x416, .i32⟩
  | 46 => ⟨S_, .i32⟩
  | 47 => ⟨S32x1x1, .i32⟩
  | 48 => ⟨S32x1x1, .i1⟩
  | 49 => ⟨S_, .i32⟩
  | 50 => ⟨S32x1x1, .i32⟩
  | 51 => ⟨S32x1x1, .i32⟩
  | 52 => ⟨S32x1x1, .i32⟩
  | 53 => ⟨S_, .i32⟩
  | 54 => ⟨S32x416x416, .i32⟩
  | 55 => ⟨S32x416x416, .i1⟩
  | 56 => ⟨S_, .i32⟩
  | 57 => ⟨S32x416x416, .i32⟩
  | 58 => ⟨S32x416x416, .i32⟩
  | 59 => ⟨S32x416x416, .i32⟩
  | 60 => ⟨S_, .i32⟩
  | 61 => ⟨S32x416x416, .i32⟩
  | 62 => ⟨S32x416x416, .i1⟩
  | 63 => ⟨S_, .i32⟩
  | 64 => ⟨S32x416x416, .i32⟩
  | 65 => ⟨S32x416x416, .i32⟩
  | 66 => ⟨S32x416x416, .i32⟩
  | 67 => ⟨S32x416x416, .i32⟩
  | 68 => ⟨S32x416x416x1, .i32⟩
  | 69 => ⟨S32x416x416x1, .i32⟩
  | 70 => ⟨S32x416x416x1, .i32⟩
  | 71 => ⟨S32x416x416x3, .i32⟩
  | 72 => ⟨S32x416x416x3, .f32⟩
  | 73 => ⟨S32x416x416x1, .i1⟩
  | 74 => ⟨S32x416x416x1, .f32⟩
  | 75 => ⟨S32x416x416x3, .f32⟩
  | 76 => ⟨S32x416x416x3, .f32⟩
  | 77 => ⟨S_, .f32⟩
  | 78 => ⟨S32x416x416, .f32⟩
  | 79 => ⟨S32x416x416, .i1⟩
  | 80 => ⟨S_, .f32⟩
  | 81 => ⟨S32x416x416, .f32⟩
  | 82 => ⟨S32x416x416, .i1⟩
  | 83 => ⟨S32x416x416, .i1⟩
  | 84 => ⟨S_, .f32⟩
  | 85 => ⟨S32x416x416, .f32⟩
  | 86 => ⟨S32x416x416, .i1⟩
  | 87 => ⟨S32x416x416, .i1⟩
  | 88 => ⟨S_, .f32⟩
  | 89 => ⟨S32x416x416, .f32⟩
  | 90 => ⟨S32x416x416, .i1⟩
  | 91 => ⟨S32x416x416, .i1⟩
  | 92 => ⟨S_, .i32⟩
  | 93 => ⟨S_, .i32⟩
  | 94 => ⟨S_, .f32⟩
  | 95 => ⟨S32x416x416, .f32⟩
  | 96 => ⟨S32x416x416, .f32⟩
  | 97 => ⟨S_, .f32⟩
  | 98 => ⟨S32x416x416, .f32⟩
  | 99 => ⟨S32x416x416, .f32⟩
  | 100 => ⟨S32x416x416, .i32⟩
  | 101 => ⟨S_, .i32⟩
  | 102 => ⟨S_, .i32⟩
  | 103 => ⟨S_, .f32⟩
  | 104 => ⟨S32x416x416, .f32⟩
  | 105 => ⟨S32x416x416, .f32⟩
  | 106 => ⟨S_, .f32⟩
  | 107 => ⟨S32x416x416, .f32⟩
  | 108 => ⟨S32x416x416, .f32⟩
  | 109 => ⟨S32x416x416, .i32⟩
  | 110 => ⟨S_, .i32⟩
  | 111 => ⟨S32x1x1, .i32⟩
  | 112 => ⟨S32x1x1, .i1⟩
  | 113 => ⟨S_, .i32⟩
  | 114 => ⟨S32x1x1, .i32⟩
  | 115 => ⟨S32x1x1, .i32⟩
  | 116 => ⟨S32x1x1, .i32⟩
  | 117 => ⟨S_, .i32⟩
  | 118 => ⟨S32x416x416, .i32⟩
  | 119 => ⟨S32x416x416, .i1⟩
  | 120 => ⟨S_, .i32⟩
  | 121 => ⟨S32x416x416, .i32⟩
  | 122 => ⟨S32x416x416, .i32⟩
  | 123 => ⟨S32x416x416, .i32⟩
  | 124 => ⟨S_, .i32⟩
  | 125 => ⟨S32x416x416, .i32⟩
  | 126 => ⟨S32x416x416, .i1⟩
  | 127 => ⟨S_, .i32⟩
  | _ => ⟨S4x8x4, .f32⟩

abbrev hbmTy0_3 (i : Nat) : BufTy := match i % 128 with
  | 0 => ⟨S32x416x416, .i32⟩
  | 1 => ⟨S32x416x416, .i32⟩
  | 2 => ⟨S32x416x416, .i32⟩
  | 3 => ⟨S32x416x416, .i32⟩
  | 4 => ⟨S32x416x416x1, .i32⟩
  | 5 => ⟨S32x416x416x1, .i32⟩
  | 6 => ⟨S32x416x416x1, .i32⟩
  | 7 => ⟨S32x416x416x3, .i32⟩
  | 8 => ⟨S32x416x416x3, .f32⟩
  | 9 => ⟨S32x416x416x1, .i1⟩
  | 10 => ⟨S32x416x416x1, .f32⟩
  | 11 => ⟨S32x416x416x3, .f32⟩
  | 12 => ⟨S32x416x416x3, .f32⟩
  | 13 => ⟨S32x416x416, .f32⟩
  | 14 => ⟨S32x416x416x1, .f32⟩
  | 15 => ⟨S32x416x416x3, .f32⟩
  | 16 => ⟨S32x416x416x3, .f32⟩
  | 17 => ⟨S32x416x416, .f32⟩
  | 18 => ⟨S32x416x416x1, .f32⟩
  | 19 => ⟨S32x416x416x3, .f32⟩
  | 20 => ⟨S32x416x416x3, .f32⟩
  | 21 => ⟨S32x416x416x3, .f32⟩
  | 22 => ⟨S32x416x416, .f32⟩
  | 23 => ⟨S32x416x416x1, .f32⟩
  | 24 => ⟨S32x416x416x3, .f32⟩
  | 25 => ⟨S32x416x416x3, .f32⟩
  | 26 => ⟨S32x416x416x3, .f32⟩
  | 27 => ⟨S32x416x416, .f32⟩
  | 28 => ⟨S32x416x416x1, .f32⟩
  | 29 => ⟨S32x416x416x3, .f32⟩
  | 30 => ⟨S32x416x416x3, .f32⟩
  | 31 => ⟨S32x416x416x3, .f32⟩
  | 32 => ⟨S32x3x416x416, .f32⟩
  | 33 => ⟨S_, .f32⟩
  | 34 => ⟨S1x3x416x416, .f32⟩
  | 35 => ⟨S_, .f32⟩
  | 36 => ⟨S1x1, .f32⟩
  | 37 => ⟨S33x3x416x416, .f32⟩
  | 38 => ⟨S33x1, .f32⟩
  | 39 => ⟨S_, .i32⟩
  | 40 => ⟨S36, .i32⟩
  | 41 => ⟨S36, .i1⟩
  | 42 => ⟨S_, .i32⟩
  | 43 => ⟨S36, .i32⟩
  | 44 => ⟨S36, .i32⟩
  | 45 => ⟨S36, .i32⟩
  | 46 => ⟨S36x1, .i32⟩
  | 47 => ⟨S36x3x416x416, .f32⟩
  | 48 => ⟨S4x9x3x416x416, .f32⟩
  | 49 => ⟨S_, .i32⟩
  | 50 => ⟨S36, .i32⟩
  | 51 => ⟨S36, .i1⟩
  | 52 => ⟨S_, .i32⟩
  | 53 => ⟨S36, .i32⟩
  | 54 => ⟨S36, .i32⟩
  | 55 => ⟨S36, .i32⟩
  | 56 => ⟨S36x1, .i32⟩
  | 57 => ⟨S36x1, .f32⟩
  | 58 => ⟨S4x9x1, .f32⟩
  | 59 => ⟨S_, .f32⟩
  | 60 => ⟨S4x1, .f32⟩
  | 61 => ⟨S_, .f32⟩
  | 62 => ⟨S4x1, .f32⟩
  | 63 => ⟨S4x1, .f32⟩
  | 64 => ⟨S4x1x1, .f32⟩
  | 65 => ⟨S4x9x1, .f32⟩
  | 66 => ⟨S4x9x1, .f32⟩
  | 67 => ⟨S4x9x1, .f32⟩
  | 68 => ⟨S_, .f32⟩
  | 69 => ⟨S4x1, .f32⟩
  | 70 => ⟨S4x1x1, .f32⟩
  | 71 => ⟨S4x9x1, .f32⟩
  | 72 => ⟨S4x9x1, .f32⟩
  | 73 => ⟨S4x9x1x1x1, .f32⟩
  | 74 => ⟨S4x9x3x416x416, .f32⟩
  | 75 => ⟨S4x9x3x416x416, .f32⟩
  | 76 => ⟨S_, .f32⟩
  | 77 => ⟨S4x3x416x416, .f32⟩
  | _ => ⟨S4x8x4, .f32⟩

abbrev hbmTy (i : Nat) : BufTy := match i / 128 with
  | 0 => hbmTy0_0 i
  | 1 => hbmTy0_1 i
  | 2 => hbmTy0_2 i
  | 3 => hbmTy0_3 i
  | _ => ⟨S4x8x4, .f32⟩

abbrev bufTy : (tb : Table) → Fin (tcTables nBuf tb) → BufTy
  | .hbm, ⟨i, _⟩ => hbmTy i
  | _, _ => ⟨S4x8x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_cst : Ref sig .tc := ⟨.hbm, 48, rfl⟩
abbrev main_call1_v3 : Ref sig .tc := ⟨.hbm, 49, rfl⟩
abbrev main_call1_v4 : Ref sig .tc := ⟨.hbm, 50, rfl⟩
abbrev main_call1_cst_0 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_cst_1 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_v15 : Ref sig .tc := ⟨.hbm, 63, rfl⟩
abbrev main_call1_v16 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_6 : Ref sig .tc := ⟨.hbm, 97, rfl⟩
abbrev main_v59 : Ref sig .tc := ⟨.hbm, 98, rfl⟩
abbrev main_v60 : Ref sig .tc := ⟨.hbm, 99, rfl⟩
abbrev main_cst_7 : Ref sig .tc := ⟨.hbm, 100, rfl⟩
abbrev main_v61 : Ref sig .tc := ⟨.hbm, 101, rfl⟩
abbrev main_v62 : Ref sig .tc := ⟨.hbm, 102, rfl⟩
abbrev main_cst_8 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_10 : Ref sig .tc := ⟨.hbm, 111, rfl⟩
abbrev main_v69 : Ref sig .tc := ⟨.hbm, 112, rfl⟩
abbrev main_v70 : Ref sig .tc := ⟨.hbm, 113, rfl⟩
abbrev main_cst_11 : Ref sig .tc := ⟨.hbm, 114, rfl⟩
abbrev main_v71 : Ref sig .tc := ⟨.hbm, 115, rfl⟩
abbrev main_v72 : Ref sig .tc := ⟨.hbm, 116, rfl⟩
abbrev main_cst_12 : Ref sig .tc := ⟨.hbm, 117, rfl⟩
abbrev main_v73 : Ref sig .tc := ⟨.hbm, 118, rfl⟩
abbrev main_v74 : Ref sig .tc := ⟨.hbm, 119, rfl⟩
abbrev main_cst_13 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_14 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_16 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_17 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_18 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_20 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_c_22 : Ref sig .tc := ⟨.hbm, 156, rfl⟩
abbrev main_c_23 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_v102 : Ref sig .tc := ⟨.hbm, 163, rfl⟩
abbrev main_v103 : Ref sig .tc := ⟨.hbm, 164, rfl⟩
abbrev main_c_24 : Ref sig .tc := ⟨.hbm, 165, rfl⟩
abbrev main_c_25 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v104 : Ref sig .tc := ⟨.hbm, 172, rfl⟩
abbrev main_v105 : Ref sig .tc := ⟨.hbm, 173, rfl⟩
abbrev main_c_26 : Ref sig .tc := ⟨.hbm, 174, rfl⟩
abbrev main_v106 : Ref sig .tc := ⟨.hbm, 175, rfl⟩
abbrev main_v107 : Ref sig .tc := ⟨.hbm, 176, rfl⟩
abbrev main_c_27 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_c_28 : Ref sig .tc := ⟨.hbm, 181, rfl⟩
abbrev main_v111 : Ref sig .tc := ⟨.hbm, 182, rfl⟩
abbrev main_v112 : Ref sig .tc := ⟨.hbm, 183, rfl⟩
abbrev main_c_29 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_c_30 : Ref sig .tc := ⟨.hbm, 188, rfl⟩
abbrev main_v116 : Ref sig .tc := ⟨.hbm, 189, rfl⟩
abbrev main_v117 : Ref sig .tc := ⟨.hbm, 190, rfl⟩
abbrev main_c_31 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_cst_32 : Ref sig .tc := ⟨.hbm, 205, rfl⟩
abbrev main_v131 : Ref sig .tc := ⟨.hbm, 206, rfl⟩
abbrev main_v132 : Ref sig .tc := ⟨.hbm, 207, rfl⟩
abbrev main_cst_33 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_34 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_35 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_c_36 : Ref sig .tc := ⟨.hbm, 220, rfl⟩
abbrev main_c_37 : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v142 : Ref sig .tc := ⟨.hbm, 227, rfl⟩
abbrev main_v143 : Ref sig .tc := ⟨.hbm, 228, rfl⟩
abbrev main_c_38 : Ref sig .tc := ⟨.hbm, 229, rfl⟩
abbrev main_c_39 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_v144 : Ref sig .tc := ⟨.hbm, 236, rfl⟩
abbrev main_v145 : Ref sig .tc := ⟨.hbm, 237, rfl⟩
abbrev main_c_40 : Ref sig .tc := ⟨.hbm, 238, rfl⟩
abbrev main_v146 : Ref sig .tc := ⟨.hbm, 239, rfl⟩
abbrev main_v147 : Ref sig .tc := ⟨.hbm, 240, rfl⟩
abbrev main_c_41 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_c_42 : Ref sig .tc := ⟨.hbm, 245, rfl⟩
abbrev main_v151 : Ref sig .tc := ⟨.hbm, 246, rfl⟩
abbrev main_v152 : Ref sig .tc := ⟨.hbm, 247, rfl⟩
abbrev main_c_43 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_c_44 : Ref sig .tc := ⟨.hbm, 252, rfl⟩
abbrev main_v156 : Ref sig .tc := ⟨.hbm, 253, rfl⟩
abbrev main_v157 : Ref sig .tc := ⟨.hbm, 254, rfl⟩
abbrev main_c_45 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_46 : Ref sig .tc := ⟨.hbm, 269, rfl⟩
abbrev main_v171 : Ref sig .tc := ⟨.hbm, 270, rfl⟩
abbrev main_v172 : Ref sig .tc := ⟨.hbm, 271, rfl⟩
abbrev main_cst_47 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_cst_48 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_cst_49 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_c_50 : Ref sig .tc := ⟨.hbm, 284, rfl⟩
abbrev main_c_51 : Ref sig .tc := ⟨.hbm, 285, rfl⟩
abbrev main_call6_v0 : Ref sig .tc := ⟨.hbm, 286, rfl⟩
abbrev main_call6_v1 : Ref sig .tc := ⟨.hbm, 287, rfl⟩
abbrev main_call6_v2 : Ref sig .tc := ⟨.hbm, 288, rfl⟩
abbrev main_call6_v3 : Ref sig .tc := ⟨.hbm, 289, rfl⟩
abbrev main_call6_v4 : Ref sig .tc := ⟨.hbm, 290, rfl⟩
abbrev main_v182 : Ref sig .tc := ⟨.hbm, 291, rfl⟩
abbrev main_v183 : Ref sig .tc := ⟨.hbm, 292, rfl⟩
abbrev main_c_52 : Ref sig .tc := ⟨.hbm, 293, rfl⟩
abbrev main_c_53 : Ref sig .tc := ⟨.hbm, 294, rfl⟩
abbrev main_call7_v0 : Ref sig .tc := ⟨.hbm, 295, rfl⟩
abbrev main_call7_v1 : Ref sig .tc := ⟨.hbm, 296, rfl⟩
abbrev main_call7_v2 : Ref sig .tc := ⟨.hbm, 297, rfl⟩
abbrev main_call7_v3 : Ref sig .tc := ⟨.hbm, 298, rfl⟩
abbrev main_call7_v4 : Ref sig .tc := ⟨.hbm, 299, rfl⟩
abbrev main_v184 : Ref sig .tc := ⟨.hbm, 300, rfl⟩
abbrev main_v185 : Ref sig .tc := ⟨.hbm, 301, rfl⟩
abbrev main_c_54 : Ref sig .tc := ⟨.hbm, 302, rfl⟩
abbrev main_v186 : Ref sig .tc := ⟨.hbm, 303, rfl⟩
abbrev main_v187 : Ref sig .tc := ⟨.hbm, 304, rfl⟩
abbrev main_c_55 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_c_56 : Ref sig .tc := ⟨.hbm, 309, rfl⟩
abbrev main_v191 : Ref sig .tc := ⟨.hbm, 310, rfl⟩
abbrev main_v192 : Ref sig .tc := ⟨.hbm, 311, rfl⟩
abbrev main_c_57 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_c_58 : Ref sig .tc := ⟨.hbm, 316, rfl⟩
abbrev main_v196 : Ref sig .tc := ⟨.hbm, 317, rfl⟩
abbrev main_v197 : Ref sig .tc := ⟨.hbm, 318, rfl⟩
abbrev main_c_59 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_cst_60 : Ref sig .tc := ⟨.hbm, 333, rfl⟩
abbrev main_v211 : Ref sig .tc := ⟨.hbm, 334, rfl⟩
abbrev main_v212 : Ref sig .tc := ⟨.hbm, 335, rfl⟩
abbrev main_cst_61 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_cst_62 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩
abbrev main_cst_63 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_c_64 : Ref sig .tc := ⟨.hbm, 348, rfl⟩
abbrev main_c_65 : Ref sig .tc := ⟨.hbm, 349, rfl⟩
abbrev main_call8_v0 : Ref sig .tc := ⟨.hbm, 350, rfl⟩
abbrev main_call8_v1 : Ref sig .tc := ⟨.hbm, 351, rfl⟩
abbrev main_call8_v2 : Ref sig .tc := ⟨.hbm, 352, rfl⟩
abbrev main_call8_v3 : Ref sig .tc := ⟨.hbm, 353, rfl⟩
abbrev main_call8_v4 : Ref sig .tc := ⟨.hbm, 354, rfl⟩
abbrev main_v222 : Ref sig .tc := ⟨.hbm, 355, rfl⟩
abbrev main_v223 : Ref sig .tc := ⟨.hbm, 356, rfl⟩
abbrev main_c_66 : Ref sig .tc := ⟨.hbm, 357, rfl⟩
abbrev main_c_67 : Ref sig .tc := ⟨.hbm, 358, rfl⟩
abbrev main_call9_v0 : Ref sig .tc := ⟨.hbm, 359, rfl⟩
abbrev main_call9_v1 : Ref sig .tc := ⟨.hbm, 360, rfl⟩
abbrev main_call9_v2 : Ref sig .tc := ⟨.hbm, 361, rfl⟩
abbrev main_call9_v3 : Ref sig .tc := ⟨.hbm, 362, rfl⟩
abbrev main_call9_v4 : Ref sig .tc := ⟨.hbm, 363, rfl⟩
abbrev main_v224 : Ref sig .tc := ⟨.hbm, 364, rfl⟩
abbrev main_v225 : Ref sig .tc := ⟨.hbm, 365, rfl⟩
abbrev main_c_68 : Ref sig .tc := ⟨.hbm, 366, rfl⟩
abbrev main_v226 : Ref sig .tc := ⟨.hbm, 367, rfl⟩
abbrev main_v227 : Ref sig .tc := ⟨.hbm, 368, rfl⟩
abbrev main_c_69 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_c_70 : Ref sig .tc := ⟨.hbm, 373, rfl⟩
abbrev main_v231 : Ref sig .tc := ⟨.hbm, 374, rfl⟩
abbrev main_v232 : Ref sig .tc := ⟨.hbm, 375, rfl⟩
abbrev main_c_71 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩
abbrev main_c_72 : Ref sig .tc := ⟨.hbm, 380, rfl⟩
abbrev main_v236 : Ref sig .tc := ⟨.hbm, 381, rfl⟩
abbrev main_v237 : Ref sig .tc := ⟨.hbm, 382, rfl⟩
abbrev main_c_73 : Ref sig .tc := ⟨.hbm, 383, rfl⟩
abbrev main_v238 : Ref sig .tc := ⟨.hbm, 384, rfl⟩
abbrev main_v239 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_v247 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_v267 : Ref sig .tc := ⟨.hbm, 413, rfl⟩
abbrev main_v268 : Ref sig .tc := ⟨.hbm, 414, rfl⟩
abbrev main_v269 : Ref sig .tc := ⟨.hbm, 415, rfl⟩
abbrev main_v270 : Ref sig .tc := ⟨.hbm, 416, rfl⟩
abbrev main_cst_74 : Ref sig .tc := ⟨.hbm, 417, rfl⟩
abbrev main_v271 : Ref sig .tc := ⟨.hbm, 418, rfl⟩
abbrev main_cst_75 : Ref sig .tc := ⟨.hbm, 419, rfl⟩
abbrev main_v272 : Ref sig .tc := ⟨.hbm, 420, rfl⟩
abbrev main_v273 : Ref sig .tc := ⟨.hbm, 421, rfl⟩
abbrev main_v274 : Ref sig .tc := ⟨.hbm, 422, rfl⟩
abbrev main_c_76 : Ref sig .tc := ⟨.hbm, 423, rfl⟩
abbrev main_v275 : Ref sig .tc := ⟨.hbm, 424, rfl⟩
abbrev main_v276 : Ref sig .tc := ⟨.hbm, 425, rfl⟩
abbrev main_c_77 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_c_78 : Ref sig .tc := ⟨.hbm, 433, rfl⟩
abbrev main_v283 : Ref sig .tc := ⟨.hbm, 434, rfl⟩
abbrev main_v284 : Ref sig .tc := ⟨.hbm, 435, rfl⟩
abbrev main_c_79 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_cst_80 : Ref sig .tc := ⟨.hbm, 443, rfl⟩
abbrev main_v291 : Ref sig .tc := ⟨.hbm, 444, rfl⟩
abbrev main_cst_81 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_cst_82 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩
abbrev main_v304 : Ref sig .tc := ⟨.hbm, 459, rfl⟩
abbrev main_cst_83 : Ref sig .tc := ⟨.hbm, 460, rfl⟩
abbrev main_v305 : Ref sig .tc := ⟨.hbm, 461, rfl⟩

abbrev nD : Nat := 1
abbrev τ : Topo := Topo.v7x

variable {F : FTy → Type} [FloatOps F]
-- ==== Proof.Ideal.Decode.lean ====
/- The decoding region: its body run on the staging buffers, what it leaves there, and the proof data of the region. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body's stores leave in each result's staging memref, as pieces, with the proof that on whole staging
    memrefs (the inputs' at their contents, the results' at anything) the body runs to the continuation that holds the
    inputs' as they were and each result's with its pieces written. -/
noncomputable def decodeRun (c : Dev nD) (arg0 : Memref sig .tc .vmem S32x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x12288 .f32) (harg3 : arg3.IsWhole) (arg4 : Memref sig .tc .vmem S1x12288 .f32) (harg4 : arg4.IsWhole) (arg5 : Memref sig .tc .vmem S4x8 .f32) (harg5 : arg5.IsWhole) (arg6 : Memref sig .tc .vmem S32x12288 .f32) (harg6 : arg6.IsWhole) (arg7 : Memref sig .tc .vmem S4x8 .f32) (harg7 : arg7.IsWhole) (x0 : Vec F S32x64 .f32) (x1 : Vec F S64x128 .f32) (x2 : Vec F S1x128 .f32) (x3 : Vec F S128x12288 .f32) (x4 : Vec F S1x12288 .f32) (x5 : Vec F S4x8 .f32) :
    Σ' (L6 : List (View.Piece (Elt F) S32x12288 .f32)), { L7 : List (View.Piece (Elt F) S4x8 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__decode_kernel arg0 harg0 arg1 harg1 arg2 harg2 arg3 harg3 arg4 harg4 arg5 harg5 arg6 harg6 arg7 harg7) K } := by
  refine ⟨?_, ?_, fun E K => ?run⟩
  case run =>
    simp only [cc0__decode_kernel_eq_skeleton]; unfold cc0__decode_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

/-- The pieces for the decoded images cover the buffer: one store of the whole of it. -/
theorem decode_cover6 (c : Dev nD) (arg0 : Memref sig .tc .vmem S32x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x12288 .f32) (harg3 : arg3.IsWhole) (arg4 : Memref sig .tc .vmem S1x12288 .f32) (harg4 : arg4.IsWhole) (arg5 : Memref sig .tc .vmem S4x8 .f32) (harg5 : arg5.IsWhole) (arg6 : Memref sig .tc .vmem S32x12288 .f32) (harg6 : arg6.IsWhole) (arg7 : Memref sig .tc .vmem S4x8 .f32) (harg7 : arg7.IsWhole) (x0 : Vec F S32x64 .f32) (x1 : Vec F S64x128 .f32) (x2 : Vec F S1x128 .f32) (x3 : Vec F S128x12288 .f32) (x4 : Vec F S1x12288 .f32) (x5 : Vec F S4x8 .f32) (y : S32x12288.Idx) :
    ∃ pc ∈ (decodeRun c arg0 harg0 arg1 harg1 arg2 harg2 arg3 harg3 arg4 harg4 arg5 harg5 arg6 harg6 arg7 harg7 x0 x1 x2 x3 x4 x5).1, y ∈ pc.1.set :=
  View.cover_of_wholeMem (decodeRun c arg0 harg0 arg1 harg1 arg2 harg2 arg3 harg3 arg4 harg4 arg5 harg5 arg6 harg6 arg7 harg7 x0 x1 x2 x3 x4 x5).1 (by sl_whole_mem) y

/-- The pieces for the weights cover the buffer: one store of the whole of it. -/
theorem decode_cover7 (c : Dev nD) (arg0 : Memref sig .tc .vmem S32x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S128x12288 .f32) (harg3 : arg3.IsWhole) (arg4 : Memref sig .tc .vmem S1x12288 .f32) (harg4 : arg4.IsWhole) (arg5 : Memref sig .tc .vmem S4x8 .f32) (harg5 : arg5.IsWhole) (arg6 : Memref sig .tc .vmem S32x12288 .f32) (harg6 : arg6.IsWhole) (arg7 : Memref sig .tc .vmem S4x8 .f32) (harg7 : arg7.IsWhole) (x0 : Vec F S32x64 .f32) (x1 : Vec F S64x128 .f32) (x2 : Vec F S1x128 .f32) (x3 : Vec F S128x12288 .f32) (x4 : Vec F S1x12288 .f32) (x5 : Vec F S4x8 .f32) (y : S4x8.Idx) :
    ∃ pc ∈ (decodeRun c arg0 harg0 arg1 harg1 arg2 harg2 arg3 harg3 arg4 harg4 arg5 harg5 arg6 harg6 arg7 harg7 x0 x1 x2 x3 x4 x5).2.1, y ∈ pc.1.set :=
  View.cover_of_wholeMem (decodeRun c arg0 harg0 arg1 harg1 arg2 harg2 arg3 harg3 arg4 harg4 arg5 harg5 arg6 harg6 arg7 harg7 x0 x1 x2 x3 x4 x5).2.1 (by sl_whole_mem) y

/-! ## At the region's staging memrefs -/

/-- The staging buffer of the objects' codes. -/
abbrev md0 : Memref sig .tc .vmem S32x64 .f32 := win0_0.stage (cfg0.slots t0_0 0)
/-- The staging buffer of the objects' codes is a whole buffer. -/
abbrev hd0 : (md0).IsWhole := hstage0_0 0
/-- The staging buffer of the first layer's matrix. -/
abbrev md1 : Memref sig .tc .vmem S64x128 .f32 := win0_1.stage (cfg0.slots t0_0 1)
/-- The staging buffer of the first layer's matrix is a whole buffer. -/
abbrev hd1 : (md1).IsWhole := hstage0_1 0
/-- The staging buffer of the first layer's bias. -/
abbrev md2 : Memref sig .tc .vmem S1x128 .f32 := win0_2.stage (cfg0.slots t0_0 2)
/-- The staging buffer of the first layer's bias is a whole buffer. -/
abbrev hd2 : (md2).IsWhole := hstage0_2 0
/-- The staging buffer of the second layer's matrix. -/
abbrev md3 : Memref sig .tc .vmem S128x12288 .f32 := win0_3.stage (cfg0.slots t0_0 3)
/-- The staging buffer of the second layer's matrix is a whole buffer. -/
abbrev hd3 : (md3).IsWhole := hstage0_3 0
/-- The staging buffer of the second layer's bias. -/
abbrev md4 : Memref sig .tc .vmem S1x12288 .f32 := win0_4.stage (cfg0.slots t0_0 4)
/-- The staging buffer of the second layer's bias is a whole buffer. -/
abbrev hd4 : (md4).IsWhole := hstage0_4 0
/-- The staging buffer of the depths. -/
abbrev md5 : Memref sig .tc .vmem S4x8 .f32 := win0_5.stage (cfg0.slots t0_0 5)
/-- The staging buffer of the depths is a whole buffer. -/
abbrev hd5 : (md5).IsWhole := hstage0_5 0
/-- The staging buffer of the decoded patches. -/
abbrev md6 : Memref sig .tc .vmem S32x12288 .f32 := win0_6.stage (cfg0.slots t0_0 6)
/-- The staging buffer of the decoded patches is a whole buffer. -/
abbrev hd6 : (md6).IsWhole := hstage0_6 0
/-- The staging buffer of the shares. -/
abbrev md7 : Memref sig .tc .vmem S4x8 .f32 := win0_7.stage (cfg0.slots t0_0 7)
/-- The staging buffer of the shares is a whole buffer. -/
abbrev hd7 : (md7).IsWhole := hstage0_7 0

/-- The run at the region's own staging memrefs. -/
abbrev decodeAt (c : Dev nD) (x0 : Vec F S32x64 .f32) (x1 : Vec F S64x128 .f32) (x2 : Vec F S1x128 .f32) (x3 : Vec F S128x12288 .f32) (x4 : Vec F S1x12288 .f32) (x5 : Vec F S4x8 .f32) := decodeRun c md0 hd0 md1 hd1 md2 hd2 md3 hd3 md4 hd4 md5 hd5 md6 hd6 md7 hd7 x0 x1 x2 x3 x4 x5

/-- The decoded images the body leaves, from the blocks it is given. -/
def decodeOut6 (c : Dev nD) (x0 : Vec F S32x64 .f32) (x1 : Vec F S64x128 .f32) (x2 : Vec F S1x128 .f32) (x3 : Vec F S128x12288 .f32) (x4 : Vec F S1x12288 .f32) (x5 : Vec F S4x8 .f32) : Vec F S32x12288 .f32 :=
  (md6).view.read (Elt F) ((md6).view.writes (Elt F) (md6).view.junk (decodeAt c x0 x1 x2 x3 x4 x5).1)

/-- The weights the body leaves, from the blocks it is given. -/
def decodeOut7 (c : Dev nD) (x0 : Vec F S32x64 .f32) (x1 : Vec F S64x128 .f32) (x2 : Vec F S1x128 .f32) (x3 : Vec F S128x12288 .f32) (x4 : Vec F S1x12288 .f32) (x5 : Vec F S4x8 .f32) : Vec F S4x8 .f32 :=
  (md7).view.read (Elt F) ((md7).view.writes (Elt F) (md7).view.junk (decodeAt c x0 x1 x2 x3 x4 x5).2.1)

/-- The body at the region's staging memrefs: from the inputs' blocks it leaves the decoded images and the weights. -/
theorem decode_wp (c : Dev nD) (x0 : Vec F S32x64 .f32) (x1 : Vec F S64x128 .f32) (x2 : Vec F S1x128 .f32) (x3 : Vec F S128x12288 .f32) (x4 : Vec F S1x12288 .f32) (x5 : Vec F S4x8 .f32) (E : Set ℕ) (K : PUnit → sProp 𝕄) :
    iprop(owns (c : Thread nD τ) md0 fullShare x0 ∗ owns (c : Thread nD τ) md1 fullShare x1 ∗ owns (c : Thread nD τ) md2 fullShare x2 ∗ owns (c : Thread nD τ) md3 fullShare x3 ∗ owns (c : Thread nD τ) md4 fullShare x4 ∗ owns (c : Thread nD τ) md5 fullShare x5 ∗ (∃ d, owns (c : Thread nD τ) md6 fullShare d) ∗ (∃ d, owns (c : Thread nD τ) md7 fullShare d)
        ∗ (iprop(owns (c : Thread nD τ) md0 fullShare x0 ∗ owns (c : Thread nD τ) md1 fullShare x1 ∗ owns (c : Thread nD τ) md2 fullShare x2 ∗ owns (c : Thread nD τ) md3 fullShare x3 ∗ owns (c : Thread nD τ) md4 fullShare x4 ∗ owns (c : Thread nD τ) md5 fullShare x5 ∗ owns (c : Thread nD τ) md6 fullShare (decodeOut6 c x0 x1 x2 x3 x4 x5) ∗ owns (c : Thread nD τ) md7 fullShare (decodeOut7 c x0 x1 x2 x3 x4 x5)) -∗ K ⟨⟩))
      ⊢ wp frame (wpE (defs₀ (F := F)) Variants.none c none) E (cc0__decode_kernel md0 hd0 md1 hd1 md2 hd2 md3 hd3 md4 hd4 md5 hd5 md6 hd6 md7 hd7) K := by
  iintro ⟨H0, H1, H2, H3, H4, H5, H6, H7, HK⟩
  iapply ((decodeAt c x0 x1 x2 x3 x4 x5).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%e6, H6⟩, ⟨%e7, H7⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]
  · unfold owns decodeOut6; iexists _; isplitr
    swap; · iexact H6
    ipureintro; exact View.read_writes_of_cover _ _ _ _ _ (decode_cover6 c md0 hd0 md1 hd1 md2 hd2 md3 hd3 md4 hd4 md5 hd5 md6 hd6 md7 hd7 x0 x1 x2 x3 x4 x5)
  unfold owns decodeOut7; iexists _; isplitr
  swap; · iexact H7
  ipureintro; exact View.read_writes_of_cover _ _ _ _ _ (decode_cover7 c md0 hd0 md1 hd1 md2 hd2 md3 hd3 md4 hd4 md5 hd5 md6 hd6 md7 hd7 x0 x1 x2 x3 x4 x5)

/-! ## The proof data -/

section Data

variable (V : (c : Dev nD) → (b : Ref sig .tc) → Buf (Elt F) ((c : Thread nD τ).loc b))

/-- Window `w`'s block: the array as the region finds it, read through the window. -/
def dblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the decoding region entered at `V`: the inputs' buffers keep their blocks, the results' end at
    what the run leaves; the buffers no window stages are held at anything; nothing is owed. -/
def decodeDat (c : Dev nD) : Dat τ (Elt F) Unit ℕ (UR sig nD τ) ℕ cfg0 c where
  A w := V c (Pipeline.arrRef spec0 w)
  after w t := match w with
    | ⟨0, _⟩ => dblk V c 0 t
    | ⟨1, _⟩ => dblk V c 1 t
    | ⟨2, _⟩ => dblk V c 2 t
    | ⟨3, _⟩ => dblk V c 3 t
    | ⟨4, _⟩ => dblk V c 4 t
    | ⟨5, _⟩ => dblk V c 5 t
    | ⟨6, _⟩ => decodeOut6 c (dblk V c 0 t0_0) (dblk V c 1 t0_0) (dblk V c 2 t0_0) (dblk V c 3 t0_0) (dblk V c 4 t0_0) (dblk V c 5 t0_0)
    | ⟨7, _⟩ => decodeOut7 c (dblk V c 0 t0_0) (dblk V c 1 t0_0) (dblk V c 2 t0_0) (dblk V c 3 t0_0) (dblk V c 4 t0_0) (dblk V c 5 t0_0)
  Φ _ := Pipeline.scopedRest spec0 c
  q _ := fullShare
  owed _ := 0

/-- Before the decode body runs, that buffer holds the objects' codes. -/
theorem decode_before0 (c : Dev nD) (d) : (decodeDat V c).before 0 t0_0 d = dblk V c 0 t0_0 := by
  unfold Dat.before; rw [if_pos (by decide)]; rfl
/-- Before the decode body runs, that buffer holds the first layer's matrix. -/
theorem decode_before1 (c : Dev nD) (d) : (decodeDat V c).before 1 t0_0 d = dblk V c 1 t0_0 := by
  unfold Dat.before; rw [if_pos (by decide)]; rfl
/-- Before the decode body runs, that buffer holds the first layer's bias. -/
theorem decode_before2 (c : Dev nD) (d) : (decodeDat V c).before 2 t0_0 d = dblk V c 2 t0_0 := by
  unfold Dat.before; rw [if_pos (by decide)]; rfl
/-- Before the decode body runs, that buffer holds the second layer's matrix. -/
theorem decode_before3 (c : Dev nD) (d) : (decodeDat V c).before 3 t0_0 d = dblk V c 3 t0_0 := by
  unfold Dat.before; rw [if_pos (by decide)]; rfl
/-- Before the decode body runs, that buffer holds the second layer's bias. -/
theorem decode_before4 (c : Dev nD) (d) : (decodeDat V c).before 4 t0_0 d = dblk V c 4 t0_0 := by
  unfold Dat.before; rw [if_pos (by decide)]; rfl
/-- Before the decode body runs, that buffer holds the depths. -/
theorem decode_before5 (c : Dev nD) (d) : (decodeDat V c).before 5 t0_0 d = dblk V c 5 t0_0 := by
  unfold Dat.before; rw [if_pos (by decide)]; rfl

/-- The body table's row for the region is the body at its staging memrefs. -/
theorem decode_row : defs₀ (F := F) .tc cfg0.body (cfg0.bodyArgs t0_0 (cfg0.slots t0_0)) = cc0__decode_kernel md0 hd0 md1 hd1 md2 hd2 md3 hd3 md4 hd4 md5 hd5 md6 hd6 md7 hd7 := by
  unfold defs₀; rw [Defs.onTc_tc]

/-- After the decode body, the buffer of the objects' codes is as it was. -/
theorem decode_after0 (c : Dev nD) : (decodeDat V c).after 0 t0_0 = dblk V c 0 t0_0 := by dsimp only [decodeDat]
/-- After the decode body, the buffer of the first layer's matrix is as it was. -/
theorem decode_after1 (c : Dev nD) : (decodeDat V c).after 1 t0_0 = dblk V c 1 t0_0 := by dsimp only [decodeDat]
/-- After the decode body, the buffer of the first layer's bias is as it was. -/
theorem decode_after2 (c : Dev nD) : (decodeDat V c).after 2 t0_0 = dblk V c 2 t0_0 := by dsimp only [decodeDat]
/-- After the decode body, the buffer of the second layer's matrix is as it was. -/
theorem decode_after3 (c : Dev nD) : (decodeDat V c).after 3 t0_0 = dblk V c 3 t0_0 := by dsimp only [decodeDat]
/-- After the decode body, the buffer of the second layer's bias is as it was. -/
theorem decode_after4 (c : Dev nD) : (decodeDat V c).after 4 t0_0 = dblk V c 4 t0_0 := by dsimp only [decodeDat]
/-- After the decode body, the buffer of the depths is as it was. -/
theorem decode_after5 (c : Dev nD) : (decodeDat V c).after 5 t0_0 = dblk V c 5 t0_0 := by dsimp only [decodeDat]
/-- After the decode body, the buffer of the decoded patches holds what the body computes. -/
theorem decode_after6 (c : Dev nD) : (decodeDat V c).after 6 t0_0 = decodeOut6 c (dblk V c 0 t0_0) (dblk V c 1 t0_0) (dblk V c 2 t0_0) (dblk V c 3 t0_0) (dblk V c 4 t0_0) (dblk V c 5 t0_0) := by dsimp only [decodeDat]
/-- After the decode body, the buffer of the shares holds what the body computes. -/
theorem decode_after7 (c : Dev nD) : (decodeDat V c).after 7 t0_0 = decodeOut7 c (dblk V c 0 t0_0) (dblk V c 1 t0_0) (dblk V c 2 t0_0) (dblk V c 3 t0_0) (dblk V c 4 t0_0) (dblk V c 5 t0_0) := by dsimp only [decodeDat]

/-- The triple of the body at the region's point, over the proof data. -/
theorem decode_sound (c : Dev nD) :
    iprop((decodeDat V c).Φ t0_0.castSucc ∗ (decodeDat V c).owesAt () t0_0.castSucc
      ∗ (∃ d, owns (c : Thread nD τ) md0 fullShare ((decodeDat V c).before 0 t0_0 d)) ∗ (∃ d, owns (c : Thread nD τ) md1 fullShare ((decodeDat V c).before 1 t0_0 d)) ∗ (∃ d, owns (c : Thread nD τ) md2 fullShare ((decodeDat V c).before 2 t0_0 d)) ∗ (∃ d, owns (c : Thread nD τ) md3 fullShare ((decodeDat V c).before 3 t0_0 d)) ∗ (∃ d, owns (c : Thread nD τ) md4 fullShare ((decodeDat V c).before 4 t0_0 d)) ∗ (∃ d, owns (c : Thread nD τ) md5 fullShare ((decodeDat V c).before 5 t0_0 d)) ∗ (∃ d, owns (c : Thread nD τ) md6 fullShare ((decodeDat V c).before 6 t0_0 d)) ∗ (∃ d, owns (c : Thread nD τ) md7 fullShare ((decodeDat V c).before 7 t0_0 d)))
      ⊢ wp frame (wpE (defs₀ (F := F)) Variants.none c none) Set.univ (cc0__decode_kernel md0 hd0 md1 hd1 md2 hd2 md3 hd3 md4 hd4 md5 hd5 md6 hd6 md7 hd7)
        (fun _ => iprop((decodeDat V c).Φ t0_0.succ ∗ (decodeDat V c).owesAt () t0_0.succ ∗ owns (c : Thread nD τ) md0 fullShare ((decodeDat V c).after 0 t0_0) ∗ owns (c : Thread nD τ) md1 fullShare ((decodeDat V c).after 1 t0_0) ∗ owns (c : Thread nD τ) md2 fullShare ((decodeDat V c).after 2 t0_0) ∗ owns (c : Thread nD τ) md3 fullShare ((decodeDat V c).after 3 t0_0) ∗ owns (c : Thread nD τ) md4 fullShare ((decodeDat V c).after 4 t0_0) ∗ owns (c : Thread nD τ) md5 fullShare ((decodeDat V c).after 5 t0_0) ∗ owns (c : Thread nD τ) md6 fullShare ((decodeDat V c).after 6 t0_0) ∗ owns (c : Thread nD τ) md7 fullShare ((decodeDat V c).after 7 t0_0))) := by
  rw [show (decodeDat V c).Φ t0_0.castSucc = Pipeline.scopedRest spec0 c from rfl, show (decodeDat V c).Φ t0_0.succ = Pipeline.scopedRest spec0 c from rfl,
    show (decodeDat V c).owesAt () t0_0.succ = (decodeDat V c).owesAt () t0_0.castSucc from rfl]
  simp only [decode_before0, decode_before1, decode_before2, decode_before3, decode_before4, decode_before5]
  rw [decode_after0, decode_after1, decode_after2, decode_after3, decode_after4, decode_after5, decode_after6, decode_after7]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (decode_wp c (dblk V c 0 t0_0) (dblk V c 1 t0_0) (dblk V c 2 t0_0) (dblk V c 3 t0_0) (dblk V c 4 t0_0) (dblk V c 5 t0_0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro H
  isplitl [HΦ]; · iexact HΦ
  isplitl [Howes]; · iexact Howes
  iexact H

/-- The body obligation of the region. -/
theorem decode_body (c : Dev nD) : BodyObligation (decodeDat V c) (defs₀ (F := F)) Variants.none () Set.univ := fun t => by
  obtain rfl := fin_N0 t
  rw [bigSep_W0, bigSep_W0, decode_row]
  exact triple_restated (decode_sound V c) rfl .rfl fun _ => .rfl

end Data

end Cert.KernelIdeal.Hand

end
-- ==== Proof.Ideal.MergeSetup.lean ====
/- The merging region: when its body clears the scratch, and the memrefs its body is called with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 from the grid coordinates. -/
abbrev isFirst (i : grid1.Coords) : Prop := (Scalar.cmpi .ne (Scalar.extui (Scalar.cmpi .eq (BitVec.ofNat 32 (i 0).val) 0#32)) 0#32) = 1#1
/-- It holds at the first point only — by arithmetic of the point. -/
theorem hfirst : ∀ t : Fin cfg1.N, isFirst (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [isFirst, e0]
    word_cmp
   : ∀ t : Fin grid1.N, isFirst (grid1.coords t) ↔ t.val % 4 = 0)

/-- One staging buffer of output window 3, through which its contents are stated (`View.read_writes_of_cover`: the
    choice does not matter). -/
abbrev outView : View sig .tc .vmem S1x3x416x416 .f32 := (Memref.whole cc1_stg3_0 : Memref sig .tc .vmem S1x3x416x416 .f32).view
/-- Each window's current staging memref at point `t`, spelled as the pipeline passes it (`bodyAt1`), and its wholeness. -/
abbrev ms1_0 (t : Fin cfg1.N) : Memref sig .tc .smem S32x4 .f32 := win1_0.stage (cfg1.slots t 0)
/-- The staging buffer of the placements is a whole buffer. -/
abbrev hs1_0 (t : Fin cfg1.N) : (ms1_0 t).IsWhole := hstage1_0 ((cfg1.slots t 0).cast nbuf1_0)
/-- The staging buffer of the shares at a step. -/
abbrev ms1_1 (t : Fin cfg1.N) : Memref sig .tc .smem S4x8 .f32 := win1_1.stage (cfg1.slots t 1)
/-- The staging buffer of the shares is a whole buffer. -/
abbrev hs1_1 (t : Fin cfg1.N) : (ms1_1 t).IsWhole := hstage1_1 ((cfg1.slots t 1).cast nbuf1_1)
/-- The staging buffer of the batch's patches at a step. -/
abbrev ms1_2 (t : Fin cfg1.N) : Memref sig .tc .vmem S24x64x64 .f32 := win1_2.stage (cfg1.slots t 2)
/-- The staging buffer of the batch's patches is a whole buffer. -/
abbrev hs1_2 (t : Fin cfg1.N) : (ms1_2 t).IsWhole := hstage1_2 ((cfg1.slots t 2).cast nbuf1_2)
/-- The staging buffer of the batch's canvas at a step. -/
abbrev ms1_3 (t : Fin cfg1.N) : Memref sig .tc .vmem S1x3x416x416 .f32 := win1_3.stage (cfg1.slots t 3)
/-- The staging buffer of the batch's canvas is a whole buffer. -/
abbrev hs1_3 (t : Fin cfg1.N) : (ms1_3 t).IsWhole := hstage1_3 ((cfg1.slots t 3).cast nbuf1_3)
/-- The scratch operands: whole scoped buffers of the kernel's own, passed beside the windows. -/
abbrev scr0 : Memref sig .tc .vmem S3x416x1024 .f32 := Memref.whole cc1_scratch0
/-- The second scratch buffer: the horizontal weights. -/
abbrev scr1 : Memref sig .tc .vmem S416x1024 .f32 := Memref.whole cc1_scratch1
/-- The scratch `arg5` the kernel carries between points, as a view: what it holds is stated through it. -/
abbrev scrView0 : View sig .tc .vmem S3x416x1024 .f32 := scr0.view
/-- The scratch `arg6` the kernel carries between points, as a view: what it holds is stated through it. -/
abbrev scrView1 : View sig .tc .vmem S416x1024 .f32 := scr1.view

end Cert.KernelIdeal.Hand

end
-- ==== Proof.Ideal.MergeRunA.lean ====
/- The merging region's body run at the first point, where it clears the scratch. -/
module

public import proofs.«01_k».proof.Proof.Ideal.MergeSetup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1132000 in
/-- What the body's stores leave in the output's staging memref and in the two scratch buffers at the first point, where it clears the scratch, as pieces
    (last first), with the proof that the body runs to the continuation holding the inputs as they were and those
    pieces written. -/
noncomputable def mergeRun_A (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) :
    Σ' (L3 : List (View.Piece (Elt F) S1x3x416x416 .f32)), Σ' (LS0 : List (View.Piece (Elt F) S3x416x1024 .f32)), { LS1 : List (View.Piece (Elt F) S416x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__merge_kernel i arg1 harg1 arg2 harg2 arg3 harg3 arg4 harg4 arg5 harg5 arg6 harg6) K } := by
  refine ⟨?_, ?_, ?_, fun E K => ?run⟩
  case run =>
    simp only [cc1__merge_kernel_eq_skeleton]; unfold cc1__merge_kernel_skel
    simp only [k1_part18_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.Ideal.MergeRunB.lean ====
/- The merging region's body run at the points after the first, over the scratch the point before left. -/
module

public import proofs.«01_k».proof.Proof.Ideal.MergeSetup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1132000 in
/-- What the body's stores leave in the output's staging memref and in the two scratch buffers at the points after the first, over the scratch the point before left, as pieces
    (last first), with the proof that the body runs to the continuation holding the inputs as they were and those
    pieces written. -/
noncomputable def mergeRun_B (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec F S32x4 .f32) (x1 : Vec F S4x8 .f32) (x2 : Vec F S24x64x64 .f32) (xs0 : Vec F S3x416x1024 .f32) (xs1 : Vec F S416x1024 .f32) :
    Σ' (L3 : List (View.Piece (Elt F) S1x3x416x416 .f32)), Σ' (LS0 : List (View.Piece (Elt F) S3x416x1024 .f32)), { LS1 : List (View.Piece (Elt F) S416x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xs0) LS0) ∗ (arg6.view.loc (c : Thread nD τ) ↦[arg6.view.set]{fullShare} arg6.view.writes (Elt F) (harg6.unread xs1) LS1)) -∗ K ⟨⟩))
          ⊢ wp frame (wpE (defs₀ (F := F)) Variants.none c none) E (cc1__merge_kernel i arg1 harg1 arg2 harg2 arg3 harg3 arg4 harg4 arg5 harg5 arg6 harg6) K } := by
  refine ⟨?_, ?_, ?_, fun E K => ?run⟩
  case run =>
    simp only [cc1__merge_kernel_eq_skeleton]; unfold cc1__merge_kernel_skel
    simp only [k1_part18_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexact HS0
    iexact HS1

end Cert.KernelIdeal.Hand

end
-- ==== Proof.Ideal.Merge.lean ====
/- The merging region: what its buffers hold after each point, the proof data of the region and its body obligation. -/
module

public import proofs.«01_k».proof.Proof.Ideal.MergeRunA
public import proofs.«01_k».proof.Proof.Ideal.MergeRunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces for the output at the first point tile its block, so they cover it. -/
theorem merge_coverA_3 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) (y : S1x3x416x416.Idx) :
    ∃ pc ∈ (mergeRun_A c i arg1 harg1 arg2 harg2 arg3 harg3 arg4 harg4 arg5 harg5 arg6 harg6 hc0 x0 x1 x2).1, y ∈ pc.1.set :=
  View.cover_of_tiledL (mergeRun_A c i arg1 harg1 arg2 harg2 arg3 harg3 arg4 harg4 arg5 harg5 arg6 harg6 hc0 x0 x1 x2).1 S1x1x416x416.size (by sl_kernel_rfl) y

/-- What the first point leaves in output 3's staging buffer: its pieces read back over junk. -/
def mergeOutA_3 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) : Vec F S1x3x416x416 .f32 :=
  outView.read (Elt F) (outView.writes (Elt F) outView.junk (mergeRun_A c i arg1 harg1 arg2 harg2 arg3 harg3 arg4 harg4 arg5 harg5 arg6 harg6 hc0 x0 x1 x2).1)

/-- The pieces for the scratch `arg5` at the first point cover it: one of them stores the whole of it. -/
theorem merge_scoverA_0 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) (y : S3x416x1024.Idx) :
    ∃ pc ∈ (mergeRun_A c i arg1 harg1 arg2 harg2 arg3 harg3 arg4 harg4 arg5 harg5 arg6 harg6 hc0 x0 x1 x2).2.1, y ∈ pc.1.set :=
  View.cover_of_wholeMem (mergeRun_A c i arg1 harg1 arg2 harg2 arg3 harg3 arg4 harg4 arg5 harg5 arg6 harg6 hc0 x0 x1 x2).2.1 (by sl_whole_mem) y

/-- What the first point leaves in scratch `arg5`: its pieces read back over junk. -/
def mergeScrA_0 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) : Vec F S3x416x1024 .f32 :=
  scrView0.read (Elt F) (scrView0.writes (Elt F) scrView0.junk (mergeRun_A c i arg1 harg1 arg2 harg2 arg3 harg3 arg4 harg4 arg5 harg5 arg6 harg6 hc0 x0 x1 x2).2.1)

/-- The pieces for the scratch `arg6` at the first point cover it: one of them stores the whole of it. -/
theorem merge_scoverA_1 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) (y : S416x1024.Idx) :
    ∃ pc ∈ (mergeRun_A c i arg1 harg1 arg2 harg2 arg3 harg3 arg4 harg4 arg5 harg5 arg6 harg6 hc0 x0 x1 x2).2.2.1, y ∈ pc.1.set :=
  View.cover_of_wholeMem (mergeRun_A c i arg1 harg1 arg2 harg2 arg3 harg3 arg4 harg4 arg5 harg5 arg6 harg6 hc0 x0 x1 x2).2.2.1 (by sl_whole_mem) y

/-- What the first point leaves in scratch `arg6`: its pieces read back over junk. -/
def mergeScrA_1 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec F S32x4 .f32) (x1 : Vec F S4x8 .f32) (x2 : Vec F S24x64x64 .f32) : Vec F S416x1024 .f32 :=
  scrView1.read (Elt F) (scrView1.writes (Elt F) scrView1.junk (mergeRun_A c i arg1 harg1 arg2 harg2 arg3 harg3 arg4 harg4 arg5 harg5 arg6 harg6 hc0 x0 x1 x2).2.2.1)

/-- The pieces for the output at a later point tile its block, so they cover it. -/
theorem merge_coverB_3 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec F S32x4 .f32) (x1 : Vec F S4x8 .f32) (x2 : Vec F S24x64x64 .f32) (xs0 : Vec F S3x416x1024 .f32) (xs1 : Vec F S416x1024 .f32) (y : S1x3x416x416.Idx) :
    ∃ pc ∈ (mergeRun_B c i arg1 harg1 arg2 harg2 arg3 harg3 arg4 harg4 arg5 harg5 arg6 harg6 hc0 x0 x1 x2 xs0 xs1).1, y ∈ pc.1.set :=
  View.cover_of_tiledL (mergeRun_B c i arg1 harg1 arg2 harg2 arg3 harg3 arg4 harg4 arg5 harg5 arg6 harg6 hc0 x0 x1 x2 xs0 xs1).1 S1x1x416x416.size (by sl_kernel_rfl) y

/-- What a later point leaves in output 3's staging buffer: its pieces read back over junk. -/
def mergeOutB_3 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec F S32x4 .f32) (x1 : Vec F S4x8 .f32) (x2 : Vec F S24x64x64 .f32) (xs0 : Vec F S3x416x1024 .f32) (xs1 : Vec F S416x1024 .f32) : Vec F S1x3x416x416 .f32 :=
  outView.read (Elt F) (outView.writes (Elt F) outView.junk (mergeRun_B c i arg1 harg1 arg2 harg2 arg3 harg3 arg4 harg4 arg5 harg5 arg6 harg6 hc0 x0 x1 x2 xs0 xs1).1)

/-- What a later point leaves in scratch `arg5`: its pieces read back over what the point before left there, which it read first. -/
def mergeScrB_0 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec F S32x4 .f32) (x1 : Vec F S4x8 .f32) (x2 : Vec F S24x64x64 .f32) (xs0 : Vec F S3x416x1024 .f32) (xs1 : Vec F S416x1024 .f32) : Vec F S3x416x1024 .f32 :=
  arg5.view.read (Elt F) (arg5.view.writes (Elt F) (harg5.unread xs0) (mergeRun_B c i arg1 harg1 arg2 harg2 arg3 harg3 arg4 harg4 arg5 harg5 arg6 harg6 hc0 x0 x1 x2 xs0 xs1).2.1)

/-- What a later point leaves in scratch `arg6`: its pieces read back over what the point before left there, which it read first. -/
def mergeScrB_1 (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec F S32x4 .f32) (x1 : Vec F S4x8 .f32) (x2 : Vec F S24x64x64 .f32) (xs0 : Vec F S3x416x1024 .f32) (xs1 : Vec F S416x1024 .f32) : Vec F S416x1024 .f32 :=
  arg6.view.read (Elt F) (arg6.view.writes (Elt F) (harg6.unread xs1) (mergeRun_B c i arg1 harg1 arg2 harg2 arg3 harg3 arg4 harg4 arg5 harg5 arg6 harg6 hc0 x0 x1 x2 xs0 xs1).2.2.1)

section Data

variable (V : (c : Dev nD) → (b : Ref sig .tc) → Buf (Elt F) ((c : Thread nD τ).loc b))

/-- Window `w`'s block at point `t`: the array as the region finds it, read through the window. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data whose array is `V`'s and whose
    body leaves the block in place. -/
theorem merge_before0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
/-- Input window 1's staging buffer holds its block at every point, for any proof data whose array is `V`'s and whose
    body leaves the block in place. -/
theorem merge_before1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
/-- Input window 2's staging buffer holds its block at every point, for any proof data whose array is `V`'s and whose
    body leaves the block in place. -/
theorem merge_before2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-! ## What the buffers hold after each point -/

/-- What the output's staging buffer and the two scratch buffers hold after the body at position `n`: the first point
    starts from the cleared scratch, a later one from what the point before left. -/
def mergeAt (c : Dev nD) : (n : ℕ) → n < cfg1.N → Vec F S1x3x416x416 .f32 × Vec F S3x416x1024 .f32 × Vec F S416x1024 .f32
  | 0, hn => (mergeOutA_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scr0 (Memref.isWhole_whole _) scr1 (Memref.isWhole_whole _) ((hfirst ⟨0, hn⟩).mpr (Nat.zero_mod _)) (mblk V c 0 ⟨0, hn⟩) (mblk V c 1 ⟨0, hn⟩) (mblk V c 2 ⟨0, hn⟩), mergeScrA_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scr0 (Memref.isWhole_whole _) scr1 (Memref.isWhole_whole _) ((hfirst ⟨0, hn⟩).mpr (Nat.zero_mod _)) (mblk V c 0 ⟨0, hn⟩) (mblk V c 1 ⟨0, hn⟩) (mblk V c 2 ⟨0, hn⟩), mergeScrA_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scr0 (Memref.isWhole_whole _) scr1 (Memref.isWhole_whole _) ((hfirst ⟨0, hn⟩).mpr (Nat.zero_mod _)) (mblk V c 0 ⟨0, hn⟩) (mblk V c 1 ⟨0, hn⟩) (mblk V c 2 ⟨0, hn⟩))
  | n + 1, hn =>
    if h0 : (n + 1) % 4 = 0 then
      (mergeOutA_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) ((hfirst ⟨n + 1, hn⟩).mpr h0) (mblk V c 0 ⟨n + 1, hn⟩) (mblk V c 1 ⟨n + 1, hn⟩) (mblk V c 2 ⟨n + 1, hn⟩), mergeScrA_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) ((hfirst ⟨n + 1, hn⟩).mpr h0) (mblk V c 0 ⟨n + 1, hn⟩) (mblk V c 1 ⟨n + 1, hn⟩) (mblk V c 2 ⟨n + 1, hn⟩), mergeScrA_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) ((hfirst ⟨n + 1, hn⟩).mpr h0) (mblk V c 0 ⟨n + 1, hn⟩) (mblk V c 1 ⟨n + 1, hn⟩) (mblk V c 2 ⟨n + 1, hn⟩))
    else
      (mergeOutB_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) (fun h => h0 ((hfirst ⟨n + 1, hn⟩).mp h)) (mblk V c 0 ⟨n + 1, hn⟩) (mblk V c 1 ⟨n + 1, hn⟩) (mblk V c 2 ⟨n + 1, hn⟩) (mergeAt c n (Nat.lt_of_succ_lt hn)).2.1 (mergeAt c n (Nat.lt_of_succ_lt hn)).2.2, mergeScrB_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) (fun h => h0 ((hfirst ⟨n + 1, hn⟩).mp h)) (mblk V c 0 ⟨n + 1, hn⟩) (mblk V c 1 ⟨n + 1, hn⟩) (mblk V c 2 ⟨n + 1, hn⟩) (mergeAt c n (Nat.lt_of_succ_lt hn)).2.1 (mergeAt c n (Nat.lt_of_succ_lt hn)).2.2, mergeScrB_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scr0 (Memref.isWhole_whole _) scr1 (Memref.isWhole_whole _) (fun h => h0 ((hfirst ⟨n + 1, hn⟩).mp h)) (mblk V c 0 ⟨n + 1, hn⟩) (mblk V c 1 ⟨n + 1, hn⟩) (mblk V c 2 ⟨n + 1, hn⟩) (mergeAt c n (Nat.lt_of_succ_lt hn)).2.1 (mergeAt c n (Nat.lt_of_succ_lt hn)).2.2)

/-- `mergeAt` at the first point. -/
theorem mergeAt_A (c : Dev nD) (t : Fin cfg1.N) (h0 : t.val % 4 = 0) :
    mergeAt V c t.val t.isLt = (mergeOutA_3 c (grid1.coords t) (ms1_0 t) (hs1_0 t) (ms1_1 t) (hs1_1 t) (ms1_2 t) (hs1_2 t) (ms1_3 t) (hs1_3 t) scr0 (Memref.isWhole_whole _) scr1 (Memref.isWhole_whole _) ((hfirst t).mpr h0) (mblk V c 0 t) (mblk V c 1 t) (mblk V c 2 t), mergeScrA_0 c (grid1.coords t) (ms1_0 t) (hs1_0 t) (ms1_1 t) (hs1_1 t) (ms1_2 t) (hs1_2 t) (ms1_3 t) (hs1_3 t) scr0 (Memref.isWhole_whole _) scr1 (Memref.isWhole_whole _) ((hfirst t).mpr h0) (mblk V c 0 t) (mblk V c 1 t) (mblk V c 2 t), mergeScrA_1 c (grid1.coords t) (ms1_0 t) (hs1_0 t) (ms1_1 t) (hs1_1 t) (ms1_2 t) (hs1_2 t) (ms1_3 t) (hs1_3 t) scr0 (Memref.isWhole_whole _) scr1 (Memref.isWhole_whole _) ((hfirst t).mpr h0) (mblk V c 0 t) (mblk V c 1 t) (mblk V c 2 t)) := by
  obtain ⟨n, hn⟩ := t
  cases n with
  | zero => exact rfl
  | succ n => exact (dif_pos h0).trans rfl

/-- `mergeAt` at a later point, over what the point before left. -/
theorem mergeAt_B (c : Dev nD) (t : Fin cfg1.N) (h0 : ¬t.val % 4 = 0) :
    mergeAt V c t.val t.isLt = (mergeOutB_3 c (grid1.coords t) (ms1_0 t) (hs1_0 t) (ms1_1 t) (hs1_1 t) (ms1_2 t) (hs1_2 t) (ms1_3 t) (hs1_3 t) scr0 (Memref.isWhole_whole _) scr1 (Memref.isWhole_whole _) (fun h => h0 ((hfirst t).mp h)) (mblk V c 0 t) (mblk V c 1 t) (mblk V c 2 t) (mergeAt V c (t.val - 1) (Nat.lt_of_le_of_lt (Nat.sub_le _ _) t.isLt)).2.1 (mergeAt V c (t.val - 1) (Nat.lt_of_le_of_lt (Nat.sub_le _ _) t.isLt)).2.2, mergeScrB_0 c (grid1.coords t) (ms1_0 t) (hs1_0 t) (ms1_1 t) (hs1_1 t) (ms1_2 t) (hs1_2 t) (ms1_3 t) (hs1_3 t) scr0 (Memref.isWhole_whole _) scr1 (Memref.isWhole_whole _) (fun h => h0 ((hfirst t).mp h)) (mblk V c 0 t) (mblk V c 1 t) (mblk V c 2 t) (mergeAt V c (t.val - 1) (Nat.lt_of_le_of_lt (Nat.sub_le _ _) t.isLt)).2.1 (mergeAt V c (t.val - 1) (Nat.lt_of_le_of_lt (Nat.sub_le _ _) t.isLt)).2.2, mergeScrB_1 c (grid1.coords t) (ms1_0 t) (hs1_0 t) (ms1_1 t) (hs1_1 t) (ms1_2 t) (hs1_2 t) (ms1_3 t) (hs1_3 t) scr0 (Memref.isWhole_whole _) scr1 (Memref.isWhole_whole _) (fun h => h0 ((hfirst t).mp h)) (mblk V c 0 t) (mblk V c 1 t) (mblk V c 2 t) (mergeAt V c (t.val - 1) (Nat.lt_of_le_of_lt (Nat.sub_le _ _) t.isLt)).2.1 (mergeAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- The other region's staging buffers, each at anything. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f))

/-- The buffers no window of this region stages: the other region's staging buffers and the two scratch buffers. -/
theorem rest_split (c : Dev nD) : (Pipeline.scopedRest (Ix := Unit) (Name := ℕ) (U := UR sig nD τ) (Lvl := ℕ) (Val := Elt F) spec1 c : sProp 𝕄)
    ⊢ iprop(others c ∗ (∃ d, owns (c : Thread nD τ) scr0 fullShare d) ∗ (∃ d, owns (c : Thread nD τ) scr1 fullShare d)) := by
  rw [scopedRest1_eq]; simp only [scr0, scr1, owns_whole]; unfold others
  iintro ⟨H0, H1, H2, H3, H4, H5, H6, H7, HS0, HS1⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]; · iexact HS0
  iexact HS1

/-- … and put together again. -/
theorem rest_join (c : Dev nD) : iprop(others c ∗ (∃ d, owns (c : Thread nD τ) scr0 fullShare d) ∗ (∃ d, owns (c : Thread nD τ) scr1 fullShare d))
    ⊢ (Pipeline.scopedRest (Ix := Unit) (Name := ℕ) (U := UR sig nD τ) (Lvl := ℕ) (Val := Elt F) spec1 c : sProp 𝕄) := by
  rw [scopedRest1_eq]; simp only [scr0, scr1, owns_whole]; unfold others
  iintro ⟨⟨H0, H1, H2, H3, H4, H5, H6, H7⟩, HS0, HS1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iexact HS1

/-- The invariant before position `n`: at first every buffer at anything, afterwards the two scratch buffers at what the
    point before left. -/
def mergeInv (c : Dev nD) : (n : ℕ) → n ≤ cfg1.N → sProp 𝕄
  | 0, _ => Pipeline.scopedRest spec1 c
  | n + 1, hn => iprop(others c ∗ owns (c : Thread nD τ) scr0 fullShare ((mergeAt V c n hn).2.1) ∗ owns (c : Thread nD τ) scr1 fullShare ((mergeAt V c n hn).2.2))

/-- Before the first step, the scratch buffers hold anything. -/
theorem mergeInv_zero (c : Dev nD) (n : ℕ) (h : n ≤ cfg1.N) (hz : n = 0) : mergeInv V c n h = Pipeline.scopedRest spec1 c := by
  subst hz; rfl

/-- After a step, the scratch buffers hold what that step left. -/
theorem mergeInv_succ (c : Dev nD) (n : ℕ) (hn : n < cfg1.N) :
    mergeInv V c (n + 1) hn = iprop(others c ∗ owns (c : Thread nD τ) scr0 fullShare ((mergeAt V c n hn).2.1) ∗ owns (c : Thread nD τ) scr1 fullShare ((mergeAt V c n hn).2.2)) := rfl

/-- Between two steps, the scratch buffers hold what the last step left. -/
theorem mergeInv_pos (c : Dev nD) (n : ℕ) (h : n ≤ cfg1.N) (hz : n ≠ 0) :
    mergeInv V c n h = iprop(others c ∗ owns (c : Thread nD τ) scr0 fullShare ((mergeAt V c (n - 1) (by omega)).2.1) ∗ owns (c : Thread nD τ) scr1 fullShare ((mergeAt V c (n - 1) (by omega)).2.2)) := by
  cases n with
  | zero => exact absurd rfl hz
  | succ n => rfl

/-- The proof data of the merging region entered at `V`: each input's buffer keeps its block, the output's and the
    scratch end at `mergeAt`; nothing is owed. -/
def mergeDat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (mergeAt V c t.val t.isLt).1
  Φ t := mergeInv V c t.val (Nat.le_of_lt_succ t.isLt)
  q _ := fullShare
  owed _ := 0

/-- The proof data's arrays are the region's entry contents. -/
theorem merge_A (c : Dev nD) (w : Fin cfg1.W) : (mergeDat V c).A w = V c (Pipeline.arrRef spec1 w) := by
  dsimp only [mergeDat]

/-- The invariant at a point's start. -/
theorem mergeInv_castSucc (c : Dev nD) (t : Fin cfg1.N) :
    (mergeDat V c).Φ t.castSucc = mergeInv V c t.val (Nat.le_of_lt t.isLt) := by
  dsimp only [mergeDat]; exact Pipeline.Dat.Φ_castSucc (mergeInv V c) t

/-- What the body leaves, window by window. -/
theorem merge_after0 (c : Dev nD) (t : Fin cfg1.N) : (mergeDat V c).after 0 t = mblk V c 0 t := by dsimp only [mergeDat]
/-- After a step's body, the buffer of the shares is as it was. -/
theorem merge_after1 (c : Dev nD) (t : Fin cfg1.N) : (mergeDat V c).after 1 t = mblk V c 1 t := by dsimp only [mergeDat]
/-- After a step's body, the buffer of the batch's patches is as it was. -/
theorem merge_after2 (c : Dev nD) (t : Fin cfg1.N) : (mergeDat V c).after 2 t = mblk V c 2 t := by dsimp only [mergeDat]
/-- After a step's body, the buffer of the batch's canvas holds what the steps so far have left in it. -/
theorem merge_after3 (c : Dev nD) (t : Fin cfg1.N) : (mergeDat V c).after 3 t = (mergeAt V c t.val t.isLt).1 := by dsimp only [mergeDat]

/-- Each input's staging buffer holds its block at every point. -/
theorem merge_before0 (c : Dev nD) (t : Fin cfg1.N) (d) : (mergeDat V c).before 0 t d = mblk V c 0 t :=
  merge_before0_of V (mergeDat V c) (merge_A V c 0) (merge_after0 V c) t d
/-- Before a step's body, that buffer holds the step's block of the shares. -/
theorem merge_before1 (c : Dev nD) (t : Fin cfg1.N) (d) : (mergeDat V c).before 1 t d = mblk V c 1 t :=
  merge_before1_of V (mergeDat V c) (merge_A V c 1) (merge_after1 V c) t d
/-- Before a step's body, that buffer holds the step's block of the batch's patches. -/
theorem merge_before2 (c : Dev nD) (t : Fin cfg1.N) (d) : (mergeDat V c).before 2 t d = mblk V c 2 t :=
  merge_before2_of V (mergeDat V c) (merge_A V c 2) (merge_after2 V c) t d

/-! ## The body obligation, at a generic point -/

/-- What the body is called with at point `t`, -/
def mergePre (c : Dev nD) (t : Fin cfg1.N) : sProp 𝕄 :=
  iprop((mergeDat V c).Φ t.castSucc ∗ (mergeDat V c).owesAt () t.castSucc
    ∗ (∃ d, owns (c : Thread nD τ) (ms1_0 t) fullShare ((mergeDat V c).before 0 t d))
    ∗ (∃ d, owns (c : Thread nD τ) (ms1_1 t) fullShare ((mergeDat V c).before 1 t d))
    ∗ (∃ d, owns (c : Thread nD τ) (ms1_2 t) fullShare ((mergeDat V c).before 2 t d))
    ∗ (∃ d, owns (c : Thread nD τ) (ms1_3 t) fullShare ((mergeDat V c).before 3 t d)))

/-- and what it returns. -/
def mergePost (c : Dev nD) (t : Fin cfg1.N) : sProp 𝕄 :=
  iprop((mergeDat V c).Φ t.succ ∗ (mergeDat V c).owesAt () t.succ
    ∗ owns (c : Thread nD τ) (ms1_0 t) fullShare ((mergeDat V c).after 0 t)
    ∗ owns (c : Thread nD τ) (ms1_1 t) fullShare ((mergeDat V c).after 1 t)
    ∗ owns (c : Thread nD τ) (ms1_2 t) fullShare ((mergeDat V c).after 2 t)
    ∗ owns (c : Thread nD τ) (ms1_3 t) fullShare ((mergeDat V c).after 3 t))

set_option maxHeartbeats 3200000 in
/-- The body at any point: the first point clears the scratch, a later one takes it as the point before left it. -/
theorem merge_sound (c : Dev nD) (t : Fin cfg1.N) :
    mergePre V c t ⊢ wp frame (wpE (defs₀ (F := F)) Variants.none c none) Set.univ (bodyAt1 t) (fun _ => mergePost V c t) := by
  unfold mergePre mergePost bodyAt1
  simp only [merge_before0, merge_before1, merge_before2]
  rw [show (mergeDat V c).owesAt () t.succ = (mergeDat V c).owesAt () t.castSucc from rfl,
    merge_after0, merge_after1, merge_after2, merge_after3]
  rw [show (mergeDat V c).Φ t.succ = mergeInv V c (t.val + 1) t.isLt from rfl, mergeInv_succ]
  have hN : t.val < 4 := lt_of_lt_of_eq t.isLt (show cfg1.N = 4 from N_1)
  by_cases h0 : t.val % 4 = 0
  · by_cases hz : t.val = 0
    · rw [mergeInv_castSucc V c t, mergeInv_zero V c _ _ hz]
      rw [mergeAt_A V c t h0]
      unfold mergeOutA_3 mergeScrA_0 mergeScrA_1; (try dsimp only)
      iintro ⟨HΦ, Ho, ⟨%d0, H0⟩, ⟨%d1, H1⟩, ⟨%d2, H2⟩, ⟨%d3, H3⟩⟩
      ihave HR := (rest_split c) $$ HΦ
      icases HR with ⟨Hg, HS0, HS1⟩
      iapply ((mergeRun_A c (grid1.coords t) _ _ _ _ _ _ _ _ _ _ _ _ ((hfirst t).mpr h0) (mblk V c 0 t) (mblk V c 1 t) (mblk V c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [Hg]; · iexact Hg
        · isplitl [HS0]
          · unfold owns; iexists _; isplitr
            swap; · iexact HS0
            ipureintro; exact View.read_writes_of_cover _ _ _ _ _ (merge_scoverA_0 c _ _ _ _ _ _ _ _ _ _ _ _ _ _ _ _ _)
          unfold owns; iexists _; isplitr
          swap; · iexact HS1
          ipureintro; exact View.read_writes_of_cover _ _ _ _ _ (merge_scoverA_1 c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (merge_coverA_3 c _ _ _ _ _ _ _ _ _ _ _ _ _ _ _ _ _)
    · exfalso; have hN : t.val < 4 := lt_of_lt_of_eq t.isLt (show cfg1.N = 4 from N_1); omega
  · by_cases hz : t.val = 0
    · exfalso; have hN : t.val < 4 := lt_of_lt_of_eq t.isLt (show cfg1.N = 4 from N_1); omega
    · rw [mergeInv_castSucc V c t, mergeInv_pos V c _ _ hz]
      rw [mergeAt_B V c t h0]
      unfold mergeOutB_3 mergeScrB_0 mergeScrB_1; (try dsimp only)
      iintro ⟨⟨Hg, HS0, HS1⟩, Ho, ⟨%d0, H0⟩, ⟨%d1, H1⟩, ⟨%d2, H2⟩, ⟨%d3, H3⟩⟩
      iapply ((mergeRun_B c (grid1.coords t) _ _ _ _ _ _ _ _ _ _ _ _ (fun h => h0 ((hfirst t).mp h)) (mblk V c 0 t) (mblk V c 1 t) (mblk V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1 Hg]
      · isplitl [Hg]; · iexact Hg
        · isplitl [HS0]
          · unfold owns; iexists _; isplitr
            swap; · iexact HS0
            ipureintro; rfl
          unfold owns; iexists _; isplitr
          swap; · iexact HS1
          ipureintro; rfl
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (merge_coverB_3 c _ _ _ _ _ _ _ _ _ _ _ _ _ _ _ _ _ _ _)

/-- The body table's row at point `t` is the body there. -/
theorem merge_row (t : Fin cfg1.N) :
    defs₀ (F := F) .tc cfg1.body (cfg1.bodyArgs t (cfg1.slots t)) = bodyAt1 t := by
  unfold defs₀; rw [Defs.onTc_tc]

/-- The body obligation of the region. -/
theorem merge_body (c : Dev nD) : BodyObligation (mergeDat (F := F) V c) (defs₀ (F := F)) Variants.none () Set.univ := fun t => by
  rw [bigSep_W1, bigSep_W1, merge_row]
  exact triple_restated (merge_sound V c t) rfl .rfl fun _ => .rfl

/-- After the last point the invariant gives the buffers back at anything. -/
theorem merge_last (c : Dev nD) : (mergeDat V c).Φ (Fin.last cfg1.N) ⊢ (Pipeline.scopedRest spec1 c : sProp 𝕄) := by
  have hN : cfg1.N = 4 := N_1
  rw [show (mergeDat V c).Φ (Fin.last cfg1.N) = mergeInv V c cfg1.N (Nat.le_refl _) from rfl, mergeInv_pos V c _ _ (by omega)]
  iintro ⟨Hg, HS0, HS1⟩
  iapply (rest_join c)
  isplitl [Hg]; · iexact Hg
  isplitl [HS0]
  · iexists _; iexact HS0
  iexists _; iexact HS1

end Data

end Cert.KernelIdeal.Hand

end
-- ==== Proof.Ideal.Whole.lean ====
/- The whole program: the two regions' records between the host reshapes, and the run. -/
module

public import proofs.«01_k».proof.Proof.Ideal.Decode
public import proofs.«01_k».proof.Proof.Ideal.Merge
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each region leaves -/

/-- The buffers as the decoding region finds them. -/
def entry0 (c : Dev nD) (b : Ref sig .tc) : Buf (Elt F) ((c : Thread nD τ).loc b) := V1 m c b

/-- The two arrays the decoding region writes, as it leaves them. -/
def outsA : Outs (F := F) := fun _ r c =>
  if h6 : r = main_call0_v4_0 then h6 ▸ (decodeDat (entry0 m) c).arrAt 6 cfg0.N
  else if h7 : r = main_call0_v4_1 then h7 ▸ (decodeDat (entry0 m) c).arrAt 7 cfg0.N
  else m ((c : Thread nD τ).loc r)

/-- What the decode call leaves in the array of patches. -/
theorem outsA_6 (J : ℕ) (c : Dev nD) : outsA m J main_call0_v4_0 c = (decodeDat (entry0 m) c).arrAt 6 cfg0.N := by
  unfold outsA; rw [dif_pos rfl]
/-- What the decode call leaves in the array of shares. -/
theorem outsA_7 (J : ℕ) (c : Dev nD) : outsA m J main_call0_v4_1 c = (decodeDat (entry0 m) c).arrAt 7 cfg0.N := by
  unfold outsA; rw [dif_neg (by decide), dif_pos rfl]

/-- The buffers after the decoding region. -/
def exit0 (c : Dev nD) (b : Ref sig .tc) : Buf (Elt F) ((c : Thread nD τ).loc b) := V2 m (outsA m) c b
/-- The buffers as the merging region finds them. -/
def entry1 (c : Dev nD) (b : Ref sig .tc) : Buf (Elt F) ((c : Thread nD τ).loc b) := V3 m (outsA m) c b

/-- What every region leaves: the decoding region's two arrays, and the array the merging region writes. -/
def outs : Outs (F := F) := fun J r c =>
  if h : r = main_v0 then h ▸ (mergeDat (entry1 m) c).arrAt 3 cfg1.N else outsA m J r c

/-- What the merge call leaves in the canvas. -/
theorem outs_3 (J : ℕ) (c : Dev nD) : outs m J main_v0 c = (mergeDat (entry1 m) c).arrAt 3 cfg1.N := by
  unfold outs; rw [dif_pos rfl]
/-- The array of patches is the decode call's. -/
theorem outs_6 (J : ℕ) (c : Dev nD) : outs m J main_call0_v4_0 c = outsA m J main_call0_v4_0 c := by
  unfold outs; rw [dif_neg (by decide)]
/-- The array of shares is the decode call's. -/
theorem outs_7 (J : ℕ) (c : Dev nD) : outs m J main_call0_v4_1 c = outsA m J main_call0_v4_1 c := by
  unfold outs; rw [dif_neg (by decide)]

/-- The merging region's output is not read before that region: the earlier states agree. -/
theorem V2_outs (c : Dev nD) : V2 m (outs m) c = V2 m (outsA m) c := by
  unfold V2; rw [outs_6, outs_7]
/-- The arrays before the merge call do not depend on what the merge call leaves. -/
theorem V3_outs (c : Dev nD) : V3 m (outs m) c = V3 m (outsA m) c := by
  unfold V3; rw [V2_outs]

/-- The buffers after the merging region. -/
def exit1 (c : Dev nD) (b : Ref sig .tc) : Buf (Elt F) ((c : Thread nD τ).loc b) := V4 m (outs m) c b

/-- The decode call changes only its two results. -/
theorem decode_ne (c : Dev nD) (b : Ref sig .tc) (h : b ∉ [main_call0_v4_0, main_call0_v4_1]) : exit0 m c b = entry0 m c b :=
  V2_of m (outsA m) c b h
/-- The patches after the decode call. -/
theorem decode_out6 (c : Dev nD) : exit0 m c main_call0_v4_0 = (decodeDat (entry0 m) c).arrAt 6 cfg0.N := by
  unfold exit0; rw [← outsA_6 m 2 c]
  exact (Function.update_of_ne (by decide) _ _).trans (Function.update_self ..)
/-- The shares after the decode call. -/
theorem decode_out7 (c : Dev nD) : exit0 m c main_call0_v4_1 = (decodeDat (entry0 m) c).arrAt 7 cfg0.N := by
  unfold exit0; rw [← outsA_7 m 2 c]
  exact Function.update_self ..
/-- The merge call changes only its result. -/
theorem merge_ne (c : Dev nD) (b : Ref sig .tc) (h : b ∉ [main_v0]) : exit1 m c b = entry1 m c b := by
  unfold exit1 entry1; rw [← V3_outs]
  exact V4_of m (outs m) c b h
/-- The canvas after the merge call. -/
theorem merge_out3 (c : Dev nD) : exit1 m c main_v0 = (mergeDat (entry1 m) c).arrAt 3 cfg1.N := by
  unfold exit1; rw [← outs_3 m 4 c]
  exact Function.update_self ..

/-! ## The regions' records -/

/-- The two regions' proof data. -/
def pdats : (p : Fin 2) → (c : Dev nD) → Dat τ (Elt F) Unit ℕ (UR sig nD τ) ℕ (cfgs p) c
  | ⟨0, _⟩ => fun c => decodeDat (entry0 m) c
  | ⟨1, _⟩ => fun c => mergeDat (entry1 m) c

/-- No loop needs a variant. -/
abbrev 𝒱₀ : Variants := Variants.none
/-- No core owes another anything: no level is assigned. -/
abbrev L : GSem nD τ sig → Finset Unit := fun _ => ∅
/-- No counter is waited for across threads: one level does. -/
abbrev lv : GSem nD τ sig → Unit → ℕ := fun _ _ => 0

/-- The decode call's arrays at its end. -/
theorem decode_last (V : (c : Dev nD) → (b : Ref sig .tc) → Buf (Elt F) ((c : Thread nD τ).loc b)) (c : Dev nD) :
    (decodeDat V c).Φ (Fin.last cfg0.N) ⊢ (Pipeline.scopedRest spec0 c : sProp 𝕄) := .rfl

set_option backward.isDefEq.respectTransparency.types false in
/-- The decoding region: entered with every buffer at `entry0`, left with every buffer at `exit0`. -/
def decodeReg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (decode_body (entry0 m) c).loose
  hwaits := Pipeline.hwaits_of_owed_zero _ _ _ _ L lv 0 fun _ _ => rfl
  pre c := iprop(unscopedBufs c (entry0 m c) ∗ ∃ W, owes (c : Thread nD τ) (0 : CellTallies nD τ sig Unit) W)
  post c := iprop(unscopedBufs c (exit0 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none]
    refine (decode_last (entry0 m) c).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (entry0 m c) (exit0 m c) ((pdats m 0 c).arrAt · cfg0.N)
      (fun w => by
        fin_cases w
        · exact ((pdats m 0 c).arrAt_in 0 rfl _).trans (decode_ne m c main_call0_v0 (by decide)).symm
        · exact ((pdats m 0 c).arrAt_in 1 rfl _).trans (decode_ne m c main_arg4 (by decide)).symm
        · exact ((pdats m 0 c).arrAt_in 2 rfl _).trans (decode_ne m c main_call0_v1 (by decide)).symm
        · exact ((pdats m 0 c).arrAt_in 3 rfl _).trans (decode_ne m c main_arg6 (by decide)).symm
        · exact ((pdats m 0 c).arrAt_in 4 rfl _).trans (decode_ne m c main_call0_v2 (by decide)).symm
        · exact ((pdats m 0 c).arrAt_in 5 rfl _).trans (decode_ne m c main_call0_v3 (by decide)).symm
        · exact (decode_out6 m c).symm
        · exact (decode_out7 m c).symm)
      (fun b hb => decode_ne m c b fun h => by
        rcases List.mem_cons.mp h with h | h
        · exact hb (h ▸ Finset.mem_image.mpr ⟨6, Finset.mem_univ _, rfl⟩)
        · exact hb (List.mem_singleton.mp h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The merging region: entered with every buffer at `entry1`, left with every buffer at `exit1`. -/
def mergeReg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (merge_body (entry1 m) c).loose
  hwaits := Pipeline.hwaits_of_owed_zero _ _ _ _ L lv 1 fun _ _ => rfl
  pre c := iprop(unscopedBufs c (entry1 m c) ∗ ∃ W, owes (c : Thread nD τ) (0 : CellTallies nD τ sig Unit) W)
  post c := iprop(unscopedBufs c (exit1 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none]
    refine (merge_last (entry1 m) c).trans ?_
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (entry1 m c) (exit1 m c) ((pdats m 1 c).arrAt · cfg1.N)
      (fun w => by
        fin_cases w
        · exact ((pdats m 1 c).arrAt_in 0 rfl _).trans (merge_ne m c main_call0_v6 (by decide)).symm
        · exact ((pdats m 1 c).arrAt_in 1 rfl _).trans (merge_ne m c main_call0_v4_1 (by decide)).symm
        · exact ((pdats m 1 c).arrAt_in 2 rfl _).trans (merge_ne m c main_call0_v5 (by decide)).symm
        · exact (merge_out3 m c).symm)
      (fun b hb => merge_ne m c b fun h => by
        rcases List.mem_cons.mp h with h | h
        · exact hb (h ▸ Finset.mem_image.mpr ⟨3, Finset.mem_univ _, rfl⟩)
        · exact absurd h List.not_mem_nil)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The launch's ghost state: the pipelines' cells. -/
def u₀ : UR sig nD τ := initOf (Pipeline.cells cfgs cellOf_inj) (Pipeline.launchToks cfgs cellOf_inj)

/-- What rides beside the buffers: the core owes nothing. -/
abbrev Rest (_ : Fin 3) (c : Dev nD) : sProp 𝕄 := iprop(∃ W, owes (c : Thread nD τ) (0 : CellTallies nD τ sig Unit) W)

set_option backward.isDefEq.respectTransparency.types false in
/-- From any memory with zero counters every weakly fair execution of @main ends, every counter at zero, the result at
    what the merging region leaves and every argument as launched. -/
theorem run : θ_run defs (onTc (τ := τ) (main (F := F))) ⟨m, fun _ => 0, ρ⟩ (fun r => (∀ c : Dev nD,
      r.2.mem ((c.tc : Thread nD τ).loc main_v0) = (mergeDat (entry1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) adm (pdats m) () cellOf_inj emb₁ defs₀ 𝒱₀ L lv m ρ main
    (segs m (outs m) 𝒱₀ L lv Rest () (pdats m) (decodeReg m) (mergeReg m))
    (fun c Q => by
      rewrite [main_chain c, Pipeline.Seg.run_eq_chain,
        show (segs m (outs m) 𝒱₀ L lv Rest () (pdats m) (decodeReg m) (mergeReg m) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp)) (u₀ := u₀)
    (hu₀ := ?_)
    (T₀ := fun c => iprop(StableHlo.held (c : Thread nD τ) (Pipeline.ucRefs τ sig) (V0 m c) ∗ Rest 0 c))
    (Tₙ := fun c => StableHlo.held (c : Thread nD τ) (Pipeline.ucRefs τ sig) (V4 m (outs m) c))
    (hch := fun c => ⟨.rfl, ?_, ?_, ?_, ?_⟩)
    (hinit := ?_)
    (QY := fun c s => s.mem ((c.tc : Thread nD τ).loc main_v0) = (mergeDat (entry1 m) c).arrAt 3 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · unfold u₀
    iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · exact sep_mono (Entails.of_eq (Pipeline.unscopedBufs_held (Ix := Unit) (Name := ℕ) (U := UR sig nD τ) (Lvl := ℕ) c (V1 m c)).symm) .rfl
  · refine sep_mono (Entails.of_eq ?_) .rfl
    rw [V2_outs]
    exact Pipeline.unscopedBufs_held (Ix := Unit) (Name := ℕ) (U := UR sig nD τ) (Lvl := ℕ) c (V2 m (outsA m) c)
  · refine sep_mono (Entails.of_eq ?_) .rfl
    exact (congrArg (StableHlo.held (c : Thread nD τ) (Pipeline.ucRefs τ sig)) (V3_outs m c)).trans
      (Pipeline.unscopedBufs_held (Ix := Unit) (Name := ℕ) (U := UR sig nD τ) (Lvl := ℕ) c (V3 m (outsA m) c)).symm
  · exact sep_mono (Entails.of_eq (Pipeline.unscopedBufs_held (Ix := Unit) (Name := ℕ) (U := UR sig nD τ) (Lvl := ℕ) c (V4 m (outs m) c))) .rfl
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (merge_out3 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c)⟩
    · iexact HSI

end Cert.KernelIdeal.Hand

end
-- ==== Proof.Frames.lean ====
/- The claims that say nothing of a result's value: each of the three programs runs to the end from any memory with zero
   counters, leaves its arguments as they were and every counter at zero; and the one named constant has the value its
   name stands for. -/
module

public import proofs.«01_k».proof.Defs
public import proofs.«01_k».proof.Proof.Bits.Whole
public import proofs.«01_k».proof.Proof.Ideal.Whole
public import proofs.«01_k».proof.Proof.Gen.ReferenceIdeal.Run

@[expose] public section

noncomputable section

namespace Cert.Proof

open Idealize.ShloMosaic Idealize.SL.Sem

/-- The kernel as written runs, leaves its arguments alone and ends with every counter at zero. -/
theorem frame_kernel : Cert.quiescent_Kernel (hKernel := Cert.Kernel.Gen.facts) := fun m ρ _ =>
  θ_run_mono (Cert.Kernel.Hand.run (F := Bits) m ρ) fun _ h => ⟨fun c => (h.1 c).2, h.2⟩

/-- So does the idealized kernel. -/
theorem frame_ideal : Cert.quiescent_KernelIdeal (hKernelIdeal := Cert.KernelIdeal.Gen.facts) := fun m ρ _ =>
  θ_run_mono (Cert.KernelIdeal.Hand.run (F := Ideal) m ρ) fun _ h => ⟨fun c => (h.1 c).2, h.2⟩

/-- So does the reference: a line of host operations, and no counter at all. -/
theorem frame_reference : Cert.quiescent_ReferenceIdeal (hReferenceIdeal := Cert.ReferenceIdeal.Gen.facts) := fun m ρ _ =>
  θ_run_mono (Cert.ReferenceIdeal.Value.run (F := Ideal) m ρ) fun r h =>
    ⟨fun c => (h c).2, sem_eq_zero_of_no_sems (by decide) r.2⟩

/-- The constant named `step` is 2/415. -/
theorem preserves : Cert.preserves_Kernel_KernelIdeal :=
  IdealRules.named_const.statement Cert.KernelIdeal.κ "step" .f32 0x3B9DEB07#32 ((2 / 415 : ℝ) : EReal) rfl

end Cert.Proof

end
-- ==== Proof.Ideal.DecodeValue.lean ====
/- What the decoding region leaves, element by element: the decoded images and the shares of the objects. -/
module

public import proofs.«01_k».proof.Proof.Ideal.Whole
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-- The decoded images: two dense layers with a rectifier between them, then the logistic function. -/
def images (x0 : Vec Ideal S32x64 .f32) (x1 : Vec Ideal S64x128 .f32) (x2 : Vec Ideal S1x128 .f32) (x3 : Vec Ideal S128x12288 .f32) (x4 : Vec Ideal S1x12288 .f32) : Vec Ideal S32x12288 .f32 :=
  fun i => Ideal.div 1 (1 + Ideal.exp (0 - (∑ k : Fin 128,
    max (∑ l : Fin 64, x0 (ix2 (i 0) l) * x1 (ix2 l k) + x2 (ix2 (0 : Fin 1) k)) 0 * x3 (ix2 k (i 1)) + x4 (ix2 (0 : Fin 1) (i 1)))))

/-- The largest depth of a batch. -/
def deepest (d : Vec Ideal S4x8 .f32) (b : Fin 4) : EReal :=
  Finset.fold max (Ideal.ofBits FTy.f32 0xFF800000#32) (fun x : Fin 8 => d (ix2 b x)) Finset.univ

/-- The share of each object in its batch: a softmax over the depths and the background's. -/
def shares (d : Vec Ideal S4x8 .f32) : Vec Ideal S4x8 .f32 :=
  fun i => Ideal.div (Ideal.exp (d (ix2 (i 0) (i 1)) - deepest d (i 0)))
    (∑ x : Fin 8, Ideal.exp (d (ix2 (i 0) x) - deepest d (i 0)) + Ideal.exp (Ideal.ofBits FTy.f32 0xC47A0000#32 - deepest d (i 0)))

/-- What the decode body computes as patches. -/
theorem decodeOut6_eq (c : Dev nD) (x0 : Vec Ideal S32x64 .f32) (x1 : Vec Ideal S64x128 .f32) (x2 : Vec Ideal S1x128 .f32) (x3 : Vec Ideal S128x12288 .f32) (x4 : Vec Ideal S1x12288 .f32) (x5 : Vec Ideal S4x8 .f32) : decodeOut6 c x0 x1 x2 x3 x4 x5 = images x0 x1 x2 x3 x4 := by
  have e0 : View.read (Elt Ideal) (View.whole cc0_stg0_0) (hd0.unread x0) = x0 := hd0.read_unread x0
  have e1 : View.read (Elt Ideal) (View.whole cc0_stg1_0) (hd1.unread x1) = x1 := hd1.read_unread x1
  have e2 : View.read (Elt Ideal) (View.whole cc0_stg2_0) (hd2.unread x2) = x2 := hd2.read_unread x2
  have e3 : View.read (Elt Ideal) (View.whole cc0_stg3_0) (hd3.unread x3) = x3 := hd3.read_unread x3
  have e4 : View.read (Elt Ideal) (View.whole cc0_stg4_0) (hd4.unread x4) = x4 := hd4.read_unread x4
  funext i
  idx_vars i
  unfold decodeOut6 decodeAt decodeRun
  sl_unfold_run_names
  dsimp only
  frame_out
  pointwise [k0_pay2]
  rw [e0, e1, e2, e3, e4]
  rfl

/-- What the decode body computes as shares. -/
theorem decodeOut7_eq (c : Dev nD) (x0 : Vec Ideal S32x64 .f32) (x1 : Vec Ideal S64x128 .f32) (x2 : Vec Ideal S1x128 .f32) (x3 : Vec Ideal S128x12288 .f32) (x4 : Vec Ideal S1x12288 .f32) (x5 : Vec Ideal S4x8 .f32) : decodeOut7 c x0 x1 x2 x3 x4 x5 = shares x5 := by
  have e5 : View.read (Elt Ideal) (View.whole cc0_stg5_0) (hd5.unread x5) = x5 := hd5.read_unread x5
  funext i
  idx_vars i
  unfold decodeOut7 decodeAt decodeRun
  sl_unfold_run_names
  dsimp only
  frame_out
  pointwise [k0_pay1, k0_pay3, k0_pay4, k0_pay5, k0_pay6, k0_pay7]
  rw [e5]
  rfl

variable (V : (c : Dev nD) → (b : Ref sig .tc) → Buf (Elt Ideal) ((c : Thread nD τ).loc b))

/-- Every block of the decoding region is its whole array. -/
theorem decode_idx (t : Fin cfg0.N) : win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by
  revert t; decide +kernel

/-- The one block of the objects' codes is the whole array. -/
theorem dblk0_eq (c : Dev nD) (t : Fin cfg0.N) : dblk V c 0 t = V c main_call0_v0 := by
  funext y
  idx_vars y
  blk_ext [dblk, (decode_idx t).1]

/-- The one block of the first layer's matrix is the whole array. -/
theorem dblk1_eq (c : Dev nD) (t : Fin cfg0.N) : dblk V c 1 t = V c main_arg4 := by
  funext y
  idx_vars y
  blk_ext [dblk, (decode_idx t).2.1]

/-- The one block of the first layer's bias is the whole array. -/
theorem dblk2_eq (c : Dev nD) (t : Fin cfg0.N) : dblk V c 2 t = V c main_call0_v1 := by
  funext y
  idx_vars y
  blk_ext [dblk, (decode_idx t).2.2.1]

/-- The one block of the second layer's matrix is the whole array. -/
theorem dblk3_eq (c : Dev nD) (t : Fin cfg0.N) : dblk V c 3 t = V c main_arg6 := by
  funext y
  idx_vars y
  blk_ext [dblk, (decode_idx t).2.2.2.1]

/-- The one block of the second layer's bias is the whole array. -/
theorem dblk4_eq (c : Dev nD) (t : Fin cfg0.N) : dblk V c 4 t = V c main_call0_v2 := by
  funext y
  idx_vars y
  blk_ext [dblk, (decode_idx t).2.2.2.2.1]

/-- The one block of the depths is the whole array. -/
theorem dblk5_eq (c : Dev nD) (t : Fin cfg0.N) : dblk V c 5 t = V c main_call0_v3 := by
  funext y
  idx_vars y
  blk_ext [dblk, (decode_idx t).2.2.2.2.2.1]

/-- The decoded images, as an array of the region's entry. -/
theorem decode_arr6 (c : Dev nD) : (decodeDat V c).arrAt 6 cfg0.N = images (V c main_call0_v0) (V c main_arg4) (V c main_call0_v1) (V c main_arg6) (V c main_call0_v2) := by
  refine (decodeDat V c).arrAt_eq_of_after_last 6 t0_0 (by decide +kernel) _ fun j => ?_
  blk_simp
  rw [decode_after6, decodeOut6_eq, dblk0_eq, dblk1_eq, dblk2_eq, dblk3_eq, dblk4_eq]

/-- The shares, as an array of the region's entry. -/
theorem decode_arr7 (c : Dev nD) : (decodeDat V c).arrAt 7 cfg0.N = shares (V c main_call0_v3) := by
  refine (decodeDat V c).arrAt_eq_of_after_last 7 t0_0 (by decide +kernel) _ fun j => ?_
  blk_simp
  rw [decode_after7, decodeOut7_eq, dblk5_eq]

end Cert.KernelIdeal.Hand

end
-- ==== Proof.Ideal.Tent.lean ====
/- The weights by which the merging kernel resamples one object onto the canvas, over the extended reals, and what its
   scratch and its output hold, element by element. -/
module

public import proofs.«01_k».proof.Proof.Ideal.Merge
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The canvas coordinate of pixel `p`: `p` steps from −1. -/
def linAt (p : ℕ) : EReal :=
  FloatOps.sitofp (F := Ideal) .f32 (BitVec.ofNat 32 p) * Named.named (F := Ideal) κ "step" (φ := .f32) 0x3B9DEB07#32 - 1

/-- An object's extent along one axis: the width the program is given, a little above zero. -/
def extent (s : EReal) : EReal := s + Ideal.ofBits .f32 0x3D4CCCCD#32

/-- An object's centre along one axis, on the canvas's scale from −1 to 1. -/
def centre (c : EReal) : EReal := c * Ideal.ofBits .f32 0x40000000#32 - 1

/-- Where in the object's patch canvas pixel `p` falls, along one axis, in patch pixels. -/
def srcAt (c s : EReal) (p : ℕ) : EReal :=
  linAt p * Ideal.div (Ideal.ofBits .f32 0x42000000#32) (extent s)
    + ((1 - Ideal.div (centre c) (extent s)) * Ideal.ofBits .f32 0x42000000#32 - Ideal.ofBits .f32 0x3F000000#32)

/-- The weight with which patch pixel `k` enters canvas pixel `p` along one axis, scaled by `w`. -/
def tentAt (w c s : EReal) (p k : ℕ) : EReal :=
  max (w - w * FloatOps.absf (F := Ideal) (φ := .f32) (FloatOps.sitofp (F := Ideal) .f32 (BitVec.ofNat 32 k) - srcAt c s p)) 0

/-- The first scratch buffer after batch `b`'s step: object `a`'s patch resampled along the vertical axis, in lanes
    `128·a` to `128·a + 63`; zero in the other lanes. -/
def upAt (b : Fin 4) (x0 : Vec Ideal S32x4 .f32) (x2 : Vec Ideal S24x64x64 .f32) (ch : Fin 3) (y : ℕ) (l : Fin 1024) : EReal :=
  if h : l.val % 128 < 64 then
    ∑ k : Fin 64, tentAt 1 (x0 (ix2 (⟨8 * b.val + l.val / 128, by omega⟩ : Fin 32) (1 : Fin 4))) (x0 (ix2 (⟨8 * b.val + l.val / 128, by omega⟩ : Fin 32) (3 : Fin 4))) y k.val
      * x2 (ix3 (⟨3 * (l.val / 128) + ch.val, by omega⟩ : Fin 24) k (⟨l.val % 128, h⟩ : Fin 64))
  else 0

/-- The second scratch buffer after batch `b`'s step: object `a`'s horizontal weights, scaled by the object's share. -/
def acrossAt (b : Fin 4) (x0 : Vec Ideal S32x4 .f32) (x1 : Vec Ideal S4x8 .f32) (x : ℕ) (l : Fin 1024) : EReal :=
  if l.val % 128 < 64 then
    tentAt (x1 (ix2 b (⟨l.val / 128, by omega⟩ : Fin 8))) (x0 (ix2 (⟨8 * b.val + l.val / 128, by omega⟩ : Fin 32) (0 : Fin 4)))
      (x0 (ix2 (⟨8 * b.val + l.val / 128, by omega⟩ : Fin 32) (2 : Fin 4))) x (l.val % 128)
  else 0

/-- The first scratch buffer's contents. -/
def upScr (b : Fin 4) (x0 : Vec Ideal S32x4 .f32) (x2 : Vec Ideal S24x64x64 .f32) : Vec Ideal S3x416x1024 .f32 :=
  fun j => upAt b x0 x2 (j 0) (j 1).val (j 2)

/-- The second scratch buffer's contents. -/
def acrossScr (b : Fin 4) (x0 : Vec Ideal S32x4 .f32) (x1 : Vec Ideal S4x8 .f32) : Vec Ideal S416x1024 .f32 :=
  fun j => acrossAt b x0 x1 (j 0).val (j 1)

/-- The output block of batch `b`: the two scratch buffers multiplied along their lanes. -/
def mergedBlk (b : Fin 4) (x0 : Vec Ideal S32x4 .f32) (x1 : Vec Ideal S4x8 .f32) (x2 : Vec Ideal S24x64x64 .f32) : Vec Ideal S1x3x416x416 .f32 :=
  fun j => ∑ l : Fin 1024, upAt b x0 x2 (j 1) (j 2).val l * acrossAt b x0 x1 (j 3).val l

/-! ## Reading a list of writes -/

/-- What a list of writes leaves is `G`, if each write's payload is `G`'s and what no write covers was `G`'s before: one
    write taken off the list. -/
theorem read_writes_peel {sig : RefSig} {κ : Kind} {sp : Space} {s : Shape} {e : EltTy} {Val : EltTy → Type}
    (v : View sig κ sp s e) (f : v.ty.Contents Val) (G : s.Idx → Val e) {off size : Fin s.rank → ℕ}
    (inb : ∀ a, off a + size a ≤ s.size a) (w : (Rect.unit off size inb).shape.Idx → Val e) (L : List (View.Piece Val s e)) (y : s.Idx)
    (hw : ∀ x, w x = G ((Rect.unit off size inb).emb x))
    (hL : ¬(∀ a, off a ≤ (y a).val ∧ (y a).val < off a + size a) → v.read Val (v.writes Val f L) y = G y) :
    v.read Val (v.writes Val f (⟨Rect.unit off size inb, w⟩ :: L)) y = G y := by
  by_cases hy : y ∈ (Rect.unit off size inb).set
  · obtain ⟨x, rfl⟩ : ∃ x, (Rect.unit off size inb).emb x = y := (Rect.unit off size inb).exists_idx_of_mem hy
    rw [View.read_writes_cons_emb]; exact hw x
  · rw [View.read_writes_cons_miss v f _ L y hy]
    exact hL fun h => hy (by rw [Rect.mem_set_unit]; exact h)

/-- A number in the kernel's table of placements, read through its buffer. -/
theorem zw_read {F : FTy → Type} {arg : Memref sig .tc .smem S32x4 .f32} (harg : arg.IsWhole) (x0 : Vec F S32x4 .f32)
    {off : Fin 2 → ℕ} (inb : ∀ a, off a + S1x1.size a ≤ S32x4.size a) (r : Fin 32) (k : Fin 4) (h : off = ![r.val, k.val]) (hn) :
    View.readAt (Elt F) arg.view (Rect.unit (s := S32x4) off S1x1.size inb).toLoadRect (harg.unread x0) (Shape.Idx.first hn) = x0 (ix2 r k) := by
  subst h
  rw [View.readAt_eq_ld, harg.read_unread, View.ld_apply]
  refine congrArg x0 (funext fun a => Fin.ext ?_)
  fin_cases a <;> rfl

/-- A number in the kernel's table of shares, read through its buffer. -/
theorem sh_read {F : FTy → Type} {arg : Memref sig .tc .smem S4x8 .f32} (harg : arg.IsWhole) (x1 : Vec F S4x8 .f32)
    {off : Fin 2 → ℕ} (inb : ∀ a, off a + S1x1.size a ≤ S4x8.size a) (r : Fin 4) (k : Fin 8) (h : off = ![r.val, k.val]) (hn) :
    View.readAt (Elt F) arg.view (Rect.unit (s := S4x8) off S1x1.size inb).toLoadRect (harg.unread x1) (Shape.Idx.first hn) = x1 (ix2 r k) := by
  subst h
  rw [View.readAt_eq_ld, harg.read_unread, View.ld_apply]
  refine congrArg x1 (funext fun a => Fin.ext ?_)
  fin_cases a <;> rfl

/-- Object `n` of batch `i`, among all the objects. -/
def objOf (i : grid1.Coords) (n : ℕ) (hn : n < 8) : Fin 32 := ⟨8 * (i 0).val + n, by have h : (i 0).val < 4 := (i 0).isLt; omega⟩

/-- Column 0 of the placements, at object `n` of the point's batch. -/
theorem zw_read0 {F : FTy → Type} {arg : Memref sig .tc .smem S32x4 .f32} (harg : arg.IsWhole) (x0 : Vec F S32x4 .f32) (i : grid1.Coords)
    (n : ℕ) (hn : n < 8) (inb : ∀ a, k1_off1 i (BitVec.ofNat 32 n) a + S1x1.size a ≤ S32x4.size a) (hp) :
    View.readAt (Elt F) arg.view (Rect.unit (s := S32x4) (k1_off1 i (BitVec.ofNat 32 n)) S1x1.size inb).toLoadRect (harg.unread x0) (Shape.Idx.first hp)
      = x0 (ix2 (objOf i n hn) (0 : Fin 4)) :=
  zw_read harg x0 inb (objOf i n hn) 0 (k1_off1_eq i ⟨n, hn⟩) hp

/-- Column 1 of the placements, at object `n` of the point's batch. -/
theorem zw_read1 {F : FTy → Type} {arg : Memref sig .tc .smem S32x4 .f32} (harg : arg.IsWhole) (x0 : Vec F S32x4 .f32) (i : grid1.Coords)
    (n : ℕ) (hn : n < 8) (inb : ∀ a, k1_off2 i (BitVec.ofNat 32 n) a + S1x1.size a ≤ S32x4.size a) (hp) :
    View.readAt (Elt F) arg.view (Rect.unit (s := S32x4) (k1_off2 i (BitVec.ofNat 32 n)) S1x1.size inb).toLoadRect (harg.unread x0) (Shape.Idx.first hp)
      = x0 (ix2 (objOf i n hn) (1 : Fin 4)) :=
  zw_read harg x0 inb (objOf i n hn) 1 (k1_off2_eq i ⟨n, hn⟩) hp

/-- Column 2 of the placements, at object `n` of the point's batch. -/
theorem zw_read2 {F : FTy → Type} {arg : Memref sig .tc .smem S32x4 .f32} (harg : arg.IsWhole) (x0 : Vec F S32x4 .f32) (i : grid1.Coords)
    (n : ℕ) (hn : n < 8) (inb : ∀ a, k1_off3 i (BitVec.ofNat 32 n) a + S1x1.size a ≤ S32x4.size a) (hp) :
    View.readAt (Elt F) arg.view (Rect.unit (s := S32x4) (k1_off3 i (BitVec.ofNat 32 n)) S1x1.size inb).toLoadRect (harg.unread x0) (Shape.Idx.first hp)
      = x0 (ix2 (objOf i n hn) (2 : Fin 4)) :=
  zw_read harg x0 inb (objOf i n hn) 2 (k1_off3_eq i ⟨n, hn⟩) hp

/-- Column 3 of the placements, at object `n` of the point's batch. -/
theorem zw_read3 {F : FTy → Type} {arg : Memref sig .tc .smem S32x4 .f32} (harg : arg.IsWhole) (x0 : Vec F S32x4 .f32) (i : grid1.Coords)
    (n : ℕ) (hn : n < 8) (inb : ∀ a, k1_off4 i (BitVec.ofNat 32 n) a + S1x1.size a ≤ S32x4.size a) (hp) :
    View.readAt (Elt F) arg.view (Rect.unit (s := S32x4) (k1_off4 i (BitVec.ofNat 32 n)) S1x1.size inb).toLoadRect (harg.unread x0) (Shape.Idx.first hp)
      = x0 (ix2 (objOf i n hn) (3 : Fin 4)) :=
  zw_read harg x0 inb (objOf i n hn) 3 (k1_off4_eq i ⟨n, hn⟩) hp

/-- Share 0 of the point's batch. -/
theorem sh_read0 {F : FTy → Type} {arg : Memref sig .tc .smem S4x8 .f32} (harg : arg.IsWhole) (x1 : Vec F S4x8 .f32) (i : grid1.Coords)
    (inb : ∀ a, k1_off5 i a + S1x1.size a ≤ S4x8.size a) (hp) :
    View.readAt (Elt F) arg.view (Rect.unit (s := S4x8) (k1_off5 i) S1x1.size inb).toLoadRect (harg.unread x1) (Shape.Idx.first hp)
      = x1 (ix2 (i 0 : Fin 4) (0 : Fin 8)) :=
  sh_read harg x1 inb (i 0) 0 (k1_off5_eq i) hp

/-- Share 1 of the point's batch. -/
theorem sh_read1 {F : FTy → Type} {arg : Memref sig .tc .smem S4x8 .f32} (harg : arg.IsWhole) (x1 : Vec F S4x8 .f32) (i : grid1.Coords)
    (inb : ∀ a, k1_off6 i a + S1x1.size a ≤ S4x8.size a) (hp) :
    View.readAt (Elt F) arg.view (Rect.unit (s := S4x8) (k1_off6 i) S1x1.size inb).toLoadRect (harg.unread x1) (Shape.Idx.first hp)
      = x1 (ix2 (i 0 : Fin 4) (1 : Fin 8)) :=
  sh_read harg x1 inb (i 0) 1 (k1_off6_eq i) hp

/-- Share 2 of the point's batch. -/
theorem sh_read2 {F : FTy → Type} {arg : Memref sig .tc .smem S4x8 .f32} (harg : arg.IsWhole) (x1 : Vec F S4x8 .f32) (i : grid1.Coords)
    (inb : ∀ a, k1_off7 i a + S1x1.size a ≤ S4x8.size a) (hp) :
    View.readAt (Elt F) arg.view (Rect.unit (s := S4x8) (k1_off7 i) S1x1.size inb).toLoadRect (harg.unread x1) (Shape.Idx.first hp)
      = x1 (ix2 (i 0 : Fin 4) (2 : Fin 8)) :=
  sh_read harg x1 inb (i 0) 2 (k1_off7_eq i) hp

/-- Share 3 of the point's batch. -/
theorem sh_read3 {F : FTy → Type} {arg : Memref sig .tc .smem S4x8 .f32} (harg : arg.IsWhole) (x1 : Vec F S4x8 .f32) (i : grid1.Coords)
    (inb : ∀ a, k1_off8 i a + S1x1.size a ≤ S4x8.size a) (hp) :
    View.readAt (Elt F) arg.view (Rect.unit (s := S4x8) (k1_off8 i) S1x1.size inb).toLoadRect (harg.unread x1) (Shape.Idx.first hp)
      = x1 (ix2 (i 0 : Fin 4) (3 : Fin 8)) :=
  sh_read harg x1 inb (i 0) 3 (k1_off8_eq i) hp

/-- Share 4 of the point's batch. -/
theorem sh_read4 {F : FTy → Type} {arg : Memref sig .tc .smem S4x8 .f32} (harg : arg.IsWhole) (x1 : Vec F S4x8 .f32) (i : grid1.Coords)
    (inb : ∀ a, k1_off9 i a + S1x1.size a ≤ S4x8.size a) (hp) :
    View.readAt (Elt F) arg.view (Rect.unit (s := S4x8) (k1_off9 i) S1x1.size inb).toLoadRect (harg.unread x1) (Shape.Idx.first hp)
      = x1 (ix2 (i 0 : Fin 4) (4 : Fin 8)) :=
  sh_read harg x1 inb (i 0) 4 (k1_off9_eq i) hp

/-- Share 5 of the point's batch. -/
theorem sh_read5 {F : FTy → Type} {arg : Memref sig .tc .smem S4x8 .f32} (harg : arg.IsWhole) (x1 : Vec F S4x8 .f32) (i : grid1.Coords)
    (inb : ∀ a, k1_off10 i a + S1x1.size a ≤ S4x8.size a) (hp) :
    View.readAt (Elt F) arg.view (Rect.unit (s := S4x8) (k1_off10 i) S1x1.size inb).toLoadRect (harg.unread x1) (Shape.Idx.first hp)
      = x1 (ix2 (i 0 : Fin 4) (5 : Fin 8)) :=
  sh_read harg x1 inb (i 0) 5 (k1_off10_eq i) hp

/-- Share 6 of the point's batch. -/
theorem sh_read6 {F : FTy → Type} {arg : Memref sig .tc .smem S4x8 .f32} (harg : arg.IsWhole) (x1 : Vec F S4x8 .f32) (i : grid1.Coords)
    (inb : ∀ a, k1_off11 i a + S1x1.size a ≤ S4x8.size a) (hp) :
    View.readAt (Elt F) arg.view (Rect.unit (s := S4x8) (k1_off11 i) S1x1.size inb).toLoadRect (harg.unread x1) (Shape.Idx.first hp)
      = x1 (ix2 (i 0 : Fin 4) (6 : Fin 8)) :=
  sh_read harg x1 inb (i 0) 6 (k1_off11_eq i) hp

/-- Share 7 of the point's batch. -/
theorem sh_read7 {F : FTy → Type} {arg : Memref sig .tc .smem S4x8 .f32} (harg : arg.IsWhole) (x1 : Vec F S4x8 .f32) (i : grid1.Coords)
    (inb : ∀ a, k1_off12 i a + S1x1.size a ≤ S4x8.size a) (hp) :
    View.readAt (Elt F) arg.view (Rect.unit (s := S4x8) (k1_off12 i) S1x1.size inb).toLoadRect (harg.unread x1) (Shape.Idx.first hp)
      = x1 (ix2 (i 0 : Fin 4) (7 : Fin 8)) :=
  sh_read harg x1 inb (i 0) 7 (k1_off12_eq i) hp

/-- A patch of the point's block, read through its buffer. -/
theorem dec_read {F : FTy → Type} {arg : Memref sig .tc .vmem S24x64x64 .f32} (harg : arg.IsWhole) (x2 : Vec F S24x64x64 .f32)
    (r : ℕ) (hr : r < 24) (inb : ∀ a, (![r, 0, 0] : Fin 3 → ℕ) a + S1x64x64.size a ≤ S24x64x64.size a) (u : Fin 1) (k j : Fin 64) :
    View.readAt (Elt F) arg.view (Rect.unit (s := S24x64x64) ![r, 0, 0] S1x64x64.size inb).toLoadRect (harg.unread x2) (ix3 u k j)
      = x2 (ix3 (⟨r, hr⟩ : Fin 24) k j) := by
  rw [View.readAt_eq_ld, harg.read_unread, View.ld_apply]
  refine congrArg x2 (funext fun a => Fin.ext ?_)
  have hu : u.val = 0 := by omega
  fin_cases a
  · show r + 1 * u.val = r; omega
  · show 0 + 1 * k.val = k.val; omega
  · show 0 + 1 * j.val = j.val; omega

/-- The second scratch at the lanes of object `n`. -/
theorem acrossScr_slot (i : grid1.Coords) (x0 : Vec Ideal S32x4 .f32) (x1 : Vec Ideal S4x8 .f32) (o n : ℕ) (hn : n < 8) (ho : o = 128 * n)
    (inb : ∀ a, (![0, o] : Fin 2 → ℕ) a + S416x64.size a ≤ S416x1024.size a) (p : Fin 416) (k : Fin 64) :
    acrossScr (i 0) x0 x1 ((Rect.unit (s := S416x1024) ![0, o] S416x64.size inb).emb (ix2 p k))
      = tentAt (x1 (ix2 (i 0 : Fin 4) (⟨n, hn⟩ : Fin 8))) (x0 (ix2 (objOf i n hn) (0 : Fin 4))) (x0 (ix2 (objOf i n hn) (2 : Fin 4))) p.val k.val := by
  have e : (Rect.unit (s := S416x1024) ![0, o] S416x64.size inb).emb (ix2 p k) = ix2 p (⟨o + k.val, by omega⟩ : Fin 1024) := by
    funext a; apply Fin.ext
    fin_cases a
    · show 0 + 1 * p.val = p.val; omega
    · show o + 1 * k.val = o + k.val; omega
  rw [e]
  have h1 : (o + k.val) % 128 = k.val := by omega
  have h2 : (o + k.val) / 128 = n := by omega
  show acrossAt (i 0) x0 x1 p.val (⟨o + k.val, _⟩ : Fin 1024) = _
  unfold acrossAt
  simp only [h1, h2, k.isLt, if_true]
  rfl

/-- The first scratch at the lanes of object `n`. -/
theorem upScr_slot (i : grid1.Coords) (x0 : Vec Ideal S32x4 .f32) (x2 : Vec Ideal S24x64x64 .f32) (ch o n : ℕ) (hc : ch < 3) (hn : n < 8) (ho : o = 128 * n)
    (inb : ∀ a, (![ch, 0, o] : Fin 3 → ℕ) a + S1x416x64.size a ≤ S3x416x1024.size a) (u : Fin 1) (p : Fin 416) (j : Fin 64) :
    upScr (i 0) x0 x2 ((Rect.unit (s := S3x416x1024) ![ch, 0, o] S1x416x64.size inb).emb (ix3 u p j))
      = ∑ k : Fin 64, tentAt 1 (x0 (ix2 (objOf i n hn) (1 : Fin 4))) (x0 (ix2 (objOf i n hn) (3 : Fin 4))) p.val k.val
          * x2 (ix3 (⟨3 * n + ch, by omega⟩ : Fin 24) k j) := by
  have e : (Rect.unit (s := S3x416x1024) ![ch, 0, o] S1x416x64.size inb).emb (ix3 u p j) = ix3 (⟨ch, hc⟩ : Fin 3) p (⟨o + j.val, by omega⟩ : Fin 1024) := by
    funext a; apply Fin.ext
    fin_cases a
    · show ch + 1 * u.val = ch; omega
    · show 0 + 1 * p.val = p.val; omega
    · show o + 1 * j.val = o + j.val; omega
  rw [e]
  have h1 : (o + j.val) % 128 = j.val := by omega
  have h2 : (o + j.val) / 128 = n := by omega
  show upAt (i 0) x0 x2 (⟨ch, hc⟩ : Fin 3) p.val (⟨o + j.val, _⟩ : Fin 1024) = _
  unfold upAt
  simp only [h1, h2, j.isLt, dif_pos]
  rfl

/-- An element with channel `ch` and a lane in the 64 from `o` lies in the rectangle of one object's store. -/
theorem slot_mem (j0 : Fin 3) (j1 : Fin 416) (j2 : Fin 1024) (ch o : ℕ) (h : j0.val = ch ∧ o ≤ j2.val ∧ j2.val < o + 64) :
    ∀ a, (![ch, 0, o] : Fin 3 → ℕ) a ≤ ((ix3 j0 j1 j2 : S3x416x1024.Idx) a).val
      ∧ ((ix3 j0 j1 j2 : S3x416x1024.Idx) a).val < (![ch, 0, o] : Fin 3 → ℕ) a + S1x416x64.size a := by
  obtain ⟨h0, h1, h2⟩ := h
  intro a
  fin_cases a
  · show ch ≤ j0.val ∧ j0.val < ch + 1; omega
  · show 0 ≤ j1.val ∧ j1.val < 0 + 416; omega
  · show o ≤ j2.val ∧ j2.val < o + 64; omega

/-- The output block along one channel's rectangle. -/
theorem mergedBlk_row (b : Fin 4) (x0 : Vec Ideal S32x4 .f32) (x1 : Vec Ideal S4x8 .f32) (x2 : Vec Ideal S24x64x64 .f32) (ch : ℕ) (hc : ch < 3)
    (inb : ∀ a, (![0, ch, 0, 0] : Fin 4 → ℕ) a + S1x1x416x416.size a ≤ S1x3x416x416.size a) (u v : Fin 1) (y x : Fin 416) :
    mergedBlk b x0 x1 x2 ((Rect.unit (s := S1x3x416x416) ![0, ch, 0, 0] S1x1x416x416.size inb).emb (ix4 u v y x))
      = ∑ l : Fin 1024, upAt b x0 x2 (⟨ch, hc⟩ : Fin 3) y.val l * acrossAt b x0 x1 x.val l := by
  have e : (Rect.unit (s := S1x3x416x416) ![0, ch, 0, 0] S1x1x416x416.size inb).emb (ix4 u v y x) = ix4 (0 : Fin 1) (⟨ch, hc⟩ : Fin 3) y x := by
    funext a; apply Fin.ext
    fin_cases a
    · show 0 + 1 * u.val = 0; omega
    · show ch + 1 * v.val = ch; omega
    · show 0 + 1 * y.val = y.val; omega
    · show 0 + 1 * x.val = x.val; omega
  rw [e]
  rfl

/-- A buffer of zeros. -/
def zeros (s : Shape) : Vec Ideal s .f32 := fun _ => (0 : EReal)

/-- The elements a load of one channel of the first scratch buffer reads. -/
theorem row_idx (ch : ℕ) (hc : ch < 3) (inb : ∀ a, (![ch, 0, 0] : Fin 3 → ℕ) a + S1x416x1024.size a ≤ S3x416x1024.size a)
    (u : Fin 1) (p : Fin 416) (l : Fin 1024) :
    (Rect.unit (s := S3x416x1024) ![ch, 0, 0] S1x416x1024.size inb).toLoadRect.idx (ix3 u p l) = ix3 (⟨ch, hc⟩ : Fin 3) p l := by
  funext a; apply Fin.ext
  fin_cases a
  · show ch + 1 * u.val = ch; omega
  · show 0 + 1 * p.val = p.val; omega
  · show 0 + 1 * l.val = l.val; omega

/-- The elements a load of the second scratch buffer reads. -/
theorem whole_idx (inb : ∀ a, (![0, 0] : Fin 2 → ℕ) a + S416x1024.size a ≤ S416x1024.size a) (p : Fin 416) (l : Fin 1024) :
    (Rect.unit (s := S416x1024) ![0, 0] S416x1024.size inb).toLoadRect.idx (ix2 p l) = ix2 p l := by
  funext a; apply Fin.ext
  fin_cases a
  · show 0 + 1 * p.val = p.val; omega
  · show 0 + 1 * l.val = l.val; omega

/-- An element of channel `ch` lies in the rectangle of that channel's store. -/
theorem chan_mem (j0 : Fin 1) (j1 : Fin 3) (j2 j3 : Fin 416) (ch : ℕ) (h : j1.val = ch) :
    ∀ a, (![0, ch, 0, 0] : Fin 4 → ℕ) a ≤ ((ix4 j0 j1 j2 j3 : S1x3x416x416.Idx) a).val
      ∧ ((ix4 j0 j1 j2 j3 : S1x3x416x416.Idx) a).val < (![0, ch, 0, 0] : Fin 4 → ℕ) a + S1x1x416x416.size a := by
  intro a
  fin_cases a
  · show 0 ≤ j0.val ∧ j0.val < 0 + 1; omega
  · show ch ≤ j1.val ∧ j1.val < ch + 1; omega
  · show 0 ≤ j2.val ∧ j2.val < 0 + 416; omega
  · show 0 ≤ j3.val ∧ j3.val < 0 + 416; omega

end Cert.KernelIdeal.Hand

end
-- ==== Proof.Ideal.MergeScrA.lean ====
/- What the first point of the merging region leaves in its two scratch buffers, element by element. -/
module

public import proofs.«01_k».proof.Proof.Ideal.Tent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The second scratch buffer after the first point: the horizontal weights, over the cleared lanes. -/
theorem mergeScrA_1_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec Ideal S32x4 .f32) (x1 : Vec Ideal S4x8 .f32) (x2 : Vec Ideal S24x64x64 .f32) :
    mergeScrA_1 c i arg1 harg1 arg2 harg2 arg3 harg3 arg4 harg4 arg5 harg5 arg6 harg6 hc0 x0 x1 x2 = acrossScr (i 0) x0 x1 := by
  funext j
  idx_vars j
  unfold mergeScrA_1 mergeRun_A
  sl_unfold_run_names
  dsimp only
  simp (disch := decide) only [zw_read0 harg1, zw_read1 harg1, zw_read2 harg1, zw_read3 harg1, sh_read0 harg2, sh_read1 harg2, sh_read2 harg2, sh_read3 harg2, sh_read4 harg2, sh_read5 harg2, sh_read6 harg2, sh_read7 harg2]
  refine read_writes_peel _ _ _ _ _ _ _ (fun x => ?_) fun h7 => ?_
  · rw [eq_ix2 x]; refine Eq.trans ?_ (acrossScr_slot i x0 x1 896 7 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h6 => ?_
  · rw [eq_ix2 x]; refine Eq.trans ?_ (acrossScr_slot i x0 x1 768 6 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h5 => ?_
  · rw [eq_ix2 x]; refine Eq.trans ?_ (acrossScr_slot i x0 x1 640 5 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h4 => ?_
  · rw [eq_ix2 x]; refine Eq.trans ?_ (acrossScr_slot i x0 x1 512 4 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h3 => ?_
  · rw [eq_ix2 x]; refine Eq.trans ?_ (acrossScr_slot i x0 x1 384 3 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h2 => ?_
  · rw [eq_ix2 x]; refine Eq.trans ?_ (acrossScr_slot i x0 x1 256 2 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h1 => ?_
  · rw [eq_ix2 x]; refine Eq.trans ?_ (acrossScr_slot i x0 x1 128 1 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h0 => ?_
  · rw [eq_ix2 x]; refine Eq.trans ?_ (acrossScr_slot i x0 x1 0 0 (by decide) rfl _ (x 0) (x 1)).symm
    unfold tentAt srcAt linAt extent centre
    pointwise [k1_pay4, k1_pay5, k1_pay6, k1_pay7, k1_pay8, k1_pay9, k1_pay10, k1_pay12]
  have hp : ¬j1.val % 128 < 64 := by
    simp only [Fin.forall_fin_two] at h0 h1 h2 h3 h4 h5 h6 h7
    have g0 : ¬(0 ≤ j1.val ∧ j1.val < 64) := fun h => h0 ⟨⟨Nat.zero_le _, by show j0.val < 0 + 416; omega⟩, h⟩
    have g1 : ¬(128 ≤ j1.val ∧ j1.val < 192) := fun h => h1 ⟨⟨Nat.zero_le _, by show j0.val < 0 + 416; omega⟩, h⟩
    have g2 : ¬(256 ≤ j1.val ∧ j1.val < 320) := fun h => h2 ⟨⟨Nat.zero_le _, by show j0.val < 0 + 416; omega⟩, h⟩
    have g3 : ¬(384 ≤ j1.val ∧ j1.val < 448) := fun h => h3 ⟨⟨Nat.zero_le _, by show j0.val < 0 + 416; omega⟩, h⟩
    have g4 : ¬(512 ≤ j1.val ∧ j1.val < 576) := fun h => h4 ⟨⟨Nat.zero_le _, by show j0.val < 0 + 416; omega⟩, h⟩
    have g5 : ¬(640 ≤ j1.val ∧ j1.val < 704) := fun h => h5 ⟨⟨Nat.zero_le _, by show j0.val < 0 + 416; omega⟩, h⟩
    have g6 : ¬(768 ≤ j1.val ∧ j1.val < 832) := fun h => h6 ⟨⟨Nat.zero_le _, by show j0.val < 0 + 416; omega⟩, h⟩
    have g7 : ¬(896 ≤ j1.val ∧ j1.val < 960) := fun h => h7 ⟨⟨Nat.zero_le _, by show j0.val < 0 + 416; omega⟩, h⟩
    omega
  have hz : acrossScr (i 0) x0 x1 (ix2 j0 j1) = 0 := by
    show acrossAt (i 0) x0 x1 j0.val j1 = 0
    unfold acrossAt; rw [if_neg hp]
  rw [hz]
  show _ = zeros S416x1024 (ix2 j0 j1)
  refine read_writes_peel _ _ _ _ _ _ _ (fun x => ?_) fun h => ?_
  · show _ = (0 : EReal)
    pointwise [k1_pay3]
  · exact absurd (fun a => ⟨by fin_cases a <;> exact Nat.zero_le _, by fin_cases a; exact j0.isLt.trans_eq (by rfl); exact j1.isLt.trans_eq (by rfl)⟩) h

/-- The first scratch buffer after the first point: the patches resampled vertically, over the cleared lanes. -/
theorem mergeScrA_0_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec Ideal S32x4 .f32) (x1 : Vec Ideal S4x8 .f32) (x2 : Vec Ideal S24x64x64 .f32) :
    mergeScrA_0 c i arg1 harg1 arg2 harg2 arg3 harg3 arg4 harg4 arg5 harg5 arg6 harg6 hc0 x0 x1 x2 = upScr (i 0) x0 x2 := by
  funext j
  idx_vars j
  unfold mergeScrA_0 mergeRun_A
  sl_unfold_run_names
  dsimp only
  simp (disch := decide) only [zw_read0 harg1, zw_read1 harg1, zw_read2 harg1, zw_read3 harg1, sh_read0 harg2, sh_read1 harg2, sh_read2 harg2, sh_read3 harg2, sh_read4 harg2, sh_read5 harg2, sh_read6 harg2, sh_read7 harg2]
  refine read_writes_peel _ _ _ _ _ _ _ (fun x => ?_) fun h7_2 => ?_
  · rw [eq_ix3 x]; refine Eq.trans ?_ (upScr_slot i x0 x2 2 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h7_1 => ?_
  · rw [eq_ix3 x]; refine Eq.trans ?_ (upScr_slot i x0 x2 1 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h7_0 => ?_
  · rw [eq_ix3 x]; refine Eq.trans ?_ (upScr_slot i x0 x2 0 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_2 => ?_
  · rw [eq_ix3 x]; refine Eq.trans ?_ (upScr_slot i x0 x2 2 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_1 => ?_
  · rw [eq_ix3 x]; refine Eq.trans ?_ (upScr_slot i x0 x2 1 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_0 => ?_
  · rw [eq_ix3 x]; refine Eq.trans ?_ (upScr_slot i x0 x2 0 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_2 => ?_
  · rw [eq_ix3 x]; refine Eq.trans ?_ (upScr_slot i x0 x2 2 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_1 => ?_
  · rw [eq_ix3 x]; refine Eq.trans ?_ (upScr_slot i x0 x2 1 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_0 => ?_
  · rw [eq_ix3 x]; refine Eq.trans ?_ (upScr_slot i x0 x2 0 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_2 => ?_
  · rw [eq_ix3 x]; refine Eq.trans ?_ (upScr_slot i x0 x2 2 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_1 => ?_
  · rw [eq_ix3 x]; refine Eq.trans ?_ (upScr_slot i x0 x2 1 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_0 => ?_
  · rw [eq_ix3 x]; refine Eq.trans ?_ (upScr_slot i x0 x2 0 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_2 => ?_
  · rw [eq_ix3 x]; refine Eq.trans ?_ (upScr_slot i x0 x2 2 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_1 => ?_
  · rw [eq_ix3 x]; refine Eq.trans ?_ (upScr_slot i x0 x2 1 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_0 => ?_
  · rw [eq_ix3 x]; refine Eq.trans ?_ (upScr_slot i x0 x2 0 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_2 => ?_
  · rw [eq_ix3 x]; refine Eq.trans ?_ (upScr_slot i x0 x2 2 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_1 => ?_
  · rw [eq_ix3 x]; refine Eq.trans ?_ (upScr_slot i x0 x2 1 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_0 => ?_
  · rw [eq_ix3 x]; refine Eq.trans ?_ (upScr_slot i x0 x2 0 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_2 => ?_
  · rw [eq_ix3 x]; refine Eq.trans ?_ (upScr_slot i x0 x2 2 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_1 => ?_
  · rw [eq_ix3 x]; refine Eq.trans ?_ (upScr_slot i x0 x2 1 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_0 => ?_
  · rw [eq_ix3 x]; refine Eq.trans ?_ (upScr_slot i x0 x2 0 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_2 => ?_
  · rw [eq_ix3 x]; refine Eq.trans ?_ (upScr_slot i x0 x2 2 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_1 => ?_
  · rw [eq_ix3 x]; refine Eq.trans ?_ (upScr_slot i x0 x2 1 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_0 => ?_
  · rw [eq_ix3 x]; refine Eq.trans ?_ (upScr_slot i x0 x2 0 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  have hp : ¬j2.val % 128 < 64 := by
    have g0 : ¬(j0.val = 0 ∧ 0 ≤ j2.val ∧ j2.val < 64) ∧ ¬(j0.val = 1 ∧ 0 ≤ j2.val ∧ j2.val < 64) ∧ ¬(j0.val = 2 ∧ 0 ≤ j2.val ∧ j2.val < 64) :=
      ⟨fun h => h0_0 (slot_mem j0 j1 j2 0 _ h), fun h => h0_1 (slot_mem j0 j1 j2 1 _ h), fun h => h0_2 (slot_mem j0 j1 j2 2 _ h)⟩
    have g1 : ¬(j0.val = 0 ∧ 128 ≤ j2.val ∧ j2.val < 192) ∧ ¬(j0.val = 1 ∧ 128 ≤ j2.val ∧ j2.val < 192) ∧ ¬(j0.val = 2 ∧ 128 ≤ j2.val ∧ j2.val < 192) :=
      ⟨fun h => h1_0 (slot_mem j0 j1 j2 0 _ h), fun h => h1_1 (slot_mem j0 j1 j2 1 _ h), fun h => h1_2 (slot_mem j0 j1 j2 2 _ h)⟩
    have g2 : ¬(j0.val = 0 ∧ 256 ≤ j2.val ∧ j2.val < 320) ∧ ¬(j0.val = 1 ∧ 256 ≤ j2.val ∧ j2.val < 320) ∧ ¬(j0.val = 2 ∧ 256 ≤ j2.val ∧ j2.val < 320) :=
      ⟨fun h => h2_0 (slot_mem j0 j1 j2 0 _ h), fun h => h2_1 (slot_mem j0 j1 j2 1 _ h), fun h => h2_2 (slot_mem j0 j1 j2 2 _ h)⟩
    have g3 : ¬(j0.val = 0 ∧ 384 ≤ j2.val ∧ j2.val < 448) ∧ ¬(j0.val = 1 ∧ 384 ≤ j2.val ∧ j2.val < 448) ∧ ¬(j0.val = 2 ∧ 384 ≤ j2.val ∧ j2.val < 448) :=
      ⟨fun h => h3_0 (slot_mem j0 j1 j2 0 _ h), fun h => h3_1 (slot_mem j0 j1 j2 1 _ h), fun h => h3_2 (slot_mem j0 j1 j2 2 _ h)⟩
    have g4 : ¬(j0.val = 0 ∧ 512 ≤ j2.val ∧ j2.val < 576) ∧ ¬(j0.val = 1 ∧ 512 ≤ j2.val ∧ j2.val < 576) ∧ ¬(j0.val = 2 ∧ 512 ≤ j2.val ∧ j2.val < 576) :=
      ⟨fun h => h4_0 (slot_mem j0 j1 j2 0 _ h), fun h => h4_1 (slot_mem j0 j1 j2 1 _ h), fun h => h4_2 (slot_mem j0 j1 j2 2 _ h)⟩
    have g5 : ¬(j0.val = 0 ∧ 640 ≤ j2.val ∧ j2.val < 704) ∧ ¬(j0.val = 1 ∧ 640 ≤ j2.val ∧ j2.val < 704) ∧ ¬(j0.val = 2 ∧ 640 ≤ j2.val ∧ j2.val < 704) :=
      ⟨fun h => h5_0 (slot_mem j0 j1 j2 0 _ h), fun h => h5_1 (slot_mem j0 j1 j2 1 _ h), fun h => h5_2 (slot_mem j0 j1 j2 2 _ h)⟩
    have g6 : ¬(j0.val = 0 ∧ 768 ≤ j2.val ∧ j2.val < 832) ∧ ¬(j0.val = 1 ∧ 768 ≤ j2.val ∧ j2.val < 832) ∧ ¬(j0.val = 2 ∧ 768 ≤ j2.val ∧ j2.val < 832) :=
      ⟨fun h => h6_0 (slot_mem j0 j1 j2 0 _ h), fun h => h6_1 (slot_mem j0 j1 j2 1 _ h), fun h => h6_2 (slot_mem j0 j1 j2 2 _ h)⟩
    have g7 : ¬(j0.val = 0 ∧ 896 ≤ j2.val ∧ j2.val < 960) ∧ ¬(j0.val = 1 ∧ 896 ≤ j2.val ∧ j2.val < 960) ∧ ¬(j0.val = 2 ∧ 896 ≤ j2.val ∧ j2.val < 960) :=
      ⟨fun h => h7_0 (slot_mem j0 j1 j2 0 _ h), fun h => h7_1 (slot_mem j0 j1 j2 1 _ h), fun h => h7_2 (slot_mem j0 j1 j2 2 _ h)⟩
    clear h0_0 h0_1 h0_2 h1_0 h1_1 h1_2 h2_0 h2_1 h2_2 h3_0 h3_1 h3_2 h4_0 h4_1 h4_2 h5_0 h5_1 h5_2 h6_0 h6_1 h6_2 h7_0 h7_1 h7_2
    have hj : j0.val = 0 ∨ j0.val = 1 ∨ j0.val = 2 := by omega
    rcases hj with hj | hj | hj <;> simp only [hj, true_and, Nat.reduceEqDiff, false_and, not_false_eq_true, true_and, and_true, OfNat.ofNat_ne_zero, OfNat.zero_ne_ofNat, zero_ne_one, one_ne_zero, OfNat.ofNat_ne_one, OfNat.one_ne_ofNat] at g0 g1 g2 g3 g4 g5 g6 g7 <;> omega
  have hz : upScr (i 0) x0 x2 (ix3 j0 j1 j2) = 0 := by
    show upAt (i 0) x0 x2 j0 j1.val j2 = 0
    unfold upAt; rw [dif_neg hp]
  rw [hz]
  show _ = zeros S3x416x1024 (ix3 j0 j1 j2)
  refine read_writes_peel _ _ _ _ _ _ _ (fun x => ?_) fun h => ?_
  · show _ = (0 : EReal)
    pointwise [k1_pay2]
  · exact absurd (fun a => ⟨by fin_cases a <;> exact Nat.zero_le _, by fin_cases a; exact j0.isLt.trans_eq (by rfl); exact j1.isLt.trans_eq (by rfl); exact j2.isLt.trans_eq (by rfl)⟩) h

end Cert.KernelIdeal.Hand

end
-- ==== Proof.Ideal.MergeScrB.lean ====
/- What a later point of the merging region leaves in its two scratch buffers, element by element. -/
module

public import proofs.«01_k».proof.Proof.Ideal.Tent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The second scratch buffer after a later point: the new horizontal weights, over lanes that held zero. -/
theorem mergeScrB_1_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec Ideal S32x4 .f32) (x1 : Vec Ideal S4x8 .f32) (x2 : Vec Ideal S24x64x64 .f32) (xs0 : Vec Ideal S3x416x1024 .f32) (xs1 : Vec Ideal S416x1024 .f32)
    (hpad : ∀ (x : Fin 416) (l : Fin 1024), ¬l.val % 128 < 64 → xs1 (ix2 x l) = 0) :
    mergeScrB_1 c i arg1 harg1 arg2 harg2 arg3 harg3 arg4 harg4 arg5 harg5 arg6 harg6 hc0 x0 x1 x2 xs0 xs1 = acrossScr (i 0) x0 x1 := by
  funext j
  idx_vars j
  unfold mergeScrB_1 mergeRun_B
  sl_unfold_run_names
  dsimp only
  simp (disch := decide) only [zw_read0 harg1, zw_read1 harg1, zw_read2 harg1, zw_read3 harg1, sh_read0 harg2, sh_read1 harg2, sh_read2 harg2, sh_read3 harg2, sh_read4 harg2, sh_read5 harg2, sh_read6 harg2, sh_read7 harg2]
  refine read_writes_peel _ _ _ _ _ _ _ (fun x => ?_) fun h7 => ?_
  · rw [eq_ix2 x]; refine Eq.trans ?_ (acrossScr_slot i x0 x1 896 7 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h6 => ?_
  · rw [eq_ix2 x]; refine Eq.trans ?_ (acrossScr_slot i x0 x1 768 6 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h5 => ?_
  · rw [eq_ix2 x]; refine Eq.trans ?_ (acrossScr_slot i x0 x1 640 5 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h4 => ?_
  · rw [eq_ix2 x]; refine Eq.trans ?_ (acrossScr_slot i x0 x1 512 4 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h3 => ?_
  · rw [eq_ix2 x]; refine Eq.trans ?_ (acrossScr_slot i x0 x1 384 3 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h2 => ?_
  · rw [eq_ix2 x]; refine Eq.trans ?_ (acrossScr_slot i x0 x1 256 2 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h1 => ?_
  · rw [eq_ix2 x]; refine Eq.trans ?_ (acrossScr_slot i x0 x1 128 1 (by decide) rfl _ (x 0) (x 1)).symm
    unfold tentAt srcAt linAt extent centre
    pointwise [k1_pay4, k1_pay5, k1_pay6, k1_pay7, k1_pay8, k1_pay9, k1_pay10, k1_pay12]
  refine read_writes_peel _ _ _ _ _ _ _ (fun x => ?_) fun h0 => ?_
  · rw [eq_ix2 x]; refine Eq.trans ?_ (acrossScr_slot i x0 x1 0 0 (by decide) rfl _ (x 0) (x 1)).symm
    unfold tentAt srcAt linAt extent centre
    pointwise [k1_pay4, k1_pay5, k1_pay6, k1_pay7, k1_pay8, k1_pay9, k1_pay10, k1_pay12]
  have hp : ¬j1.val % 128 < 64 := by
    simp only [Fin.forall_fin_two] at h0 h1 h2 h3 h4 h5 h6 h7
    have g0 : ¬(0 ≤ j1.val ∧ j1.val < 64) := fun h => h0 ⟨⟨Nat.zero_le _, by show j0.val < 0 + 416; omega⟩, h⟩
    have g1 : ¬(128 ≤ j1.val ∧ j1.val < 192) := fun h => h1 ⟨⟨Nat.zero_le _, by show j0.val < 0 + 416; omega⟩, h⟩
    have g2 : ¬(256 ≤ j1.val ∧ j1.val < 320) := fun h => h2 ⟨⟨Nat.zero_le _, by show j0.val < 0 + 416; omega⟩, h⟩
    have g3 : ¬(384 ≤ j1.val ∧ j1.val < 448) := fun h => h3 ⟨⟨Nat.zero_le _, by show j0.val < 0 + 416; omega⟩, h⟩
    have g4 : ¬(512 ≤ j1.val ∧ j1.val < 576) := fun h => h4 ⟨⟨Nat.zero_le _, by show j0.val < 0 + 416; omega⟩, h⟩
    have g5 : ¬(640 ≤ j1.val ∧ j1.val < 704) := fun h => h5 ⟨⟨Nat.zero_le _, by show j0.val < 0 + 416; omega⟩, h⟩
    have g6 : ¬(768 ≤ j1.val ∧ j1.val < 832) := fun h => h6 ⟨⟨Nat.zero_le _, by show j0.val < 0 + 416; omega⟩, h⟩
    have g7 : ¬(896 ≤ j1.val ∧ j1.val < 960) := fun h => h7 ⟨⟨Nat.zero_le _, by show j0.val < 0 + 416; omega⟩, h⟩
    omega
  have hz : acrossScr (i 0) x0 x1 (ix2 j0 j1) = 0 := by
    show acrossAt (i 0) x0 x1 j0.val j1 = 0
    unfold acrossAt; rw [if_neg hp]
  rw [hz]
  rw [View.writes_nil, harg6.read_unread]
  exact hpad j0 j1 hp

/-- The first scratch buffer after a later point: the patches resampled vertically, over lanes that held zero. -/
theorem mergeScrB_0_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec Ideal S32x4 .f32) (x1 : Vec Ideal S4x8 .f32) (x2 : Vec Ideal S24x64x64 .f32) (xs0 : Vec Ideal S3x416x1024 .f32) (xs1 : Vec Ideal S416x1024 .f32)
    (hpad : ∀ (ch : Fin 3) (y : Fin 416) (l : Fin 1024), ¬l.val % 128 < 64 → xs0 (ix3 ch y l) = 0) :
    mergeScrB_0 c i arg1 harg1 arg2 harg2 arg3 harg3 arg4 harg4 arg5 harg5 arg6 harg6 hc0 x0 x1 x2 xs0 xs1 = upScr (i 0) x0 x2 := by
  funext j
  idx_vars j
  unfold mergeScrB_0 mergeRun_B
  sl_unfold_run_names
  dsimp only
  simp (disch := decide) only [zw_read0 harg1, zw_read1 harg1, zw_read2 harg1, zw_read3 harg1, sh_read0 harg2, sh_read1 harg2, sh_read2 harg2, sh_read3 harg2, sh_read4 harg2, sh_read5 harg2, sh_read6 harg2, sh_read7 harg2]
  refine read_writes_peel _ _ _ _ _ _ _ (fun x => ?_) fun h7_2 => ?_
  · rw [eq_ix3 x]; refine Eq.trans ?_ (upScr_slot i x0 x2 2 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h7_1 => ?_
  · rw [eq_ix3 x]; refine Eq.trans ?_ (upScr_slot i x0 x2 1 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h7_0 => ?_
  · rw [eq_ix3 x]; refine Eq.trans ?_ (upScr_slot i x0 x2 0 896 7 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_2 => ?_
  · rw [eq_ix3 x]; refine Eq.trans ?_ (upScr_slot i x0 x2 2 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_1 => ?_
  · rw [eq_ix3 x]; refine Eq.trans ?_ (upScr_slot i x0 x2 1 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h6_0 => ?_
  · rw [eq_ix3 x]; refine Eq.trans ?_ (upScr_slot i x0 x2 0 768 6 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_2 => ?_
  · rw [eq_ix3 x]; refine Eq.trans ?_ (upScr_slot i x0 x2 2 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_1 => ?_
  · rw [eq_ix3 x]; refine Eq.trans ?_ (upScr_slot i x0 x2 1 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h5_0 => ?_
  · rw [eq_ix3 x]; refine Eq.trans ?_ (upScr_slot i x0 x2 0 640 5 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_2 => ?_
  · rw [eq_ix3 x]; refine Eq.trans ?_ (upScr_slot i x0 x2 2 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_1 => ?_
  · rw [eq_ix3 x]; refine Eq.trans ?_ (upScr_slot i x0 x2 1 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h4_0 => ?_
  · rw [eq_ix3 x]; refine Eq.trans ?_ (upScr_slot i x0 x2 0 512 4 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_2 => ?_
  · rw [eq_ix3 x]; refine Eq.trans ?_ (upScr_slot i x0 x2 2 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_1 => ?_
  · rw [eq_ix3 x]; refine Eq.trans ?_ (upScr_slot i x0 x2 1 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h3_0 => ?_
  · rw [eq_ix3 x]; refine Eq.trans ?_ (upScr_slot i x0 x2 0 384 3 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_2 => ?_
  · rw [eq_ix3 x]; refine Eq.trans ?_ (upScr_slot i x0 x2 2 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_1 => ?_
  · rw [eq_ix3 x]; refine Eq.trans ?_ (upScr_slot i x0 x2 1 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h2_0 => ?_
  · rw [eq_ix3 x]; refine Eq.trans ?_ (upScr_slot i x0 x2 0 256 2 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_2 => ?_
  · rw [eq_ix3 x]; refine Eq.trans ?_ (upScr_slot i x0 x2 2 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_1 => ?_
  · rw [eq_ix3 x]; refine Eq.trans ?_ (upScr_slot i x0 x2 1 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h1_0 => ?_
  · rw [eq_ix3 x]; refine Eq.trans ?_ (upScr_slot i x0 x2 0 128 1 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_2 => ?_
  · rw [eq_ix3 x]; refine Eq.trans ?_ (upScr_slot i x0 x2 2 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_1 => ?_
  · rw [eq_ix3 x]; refine Eq.trans ?_ (upScr_slot i x0 x2 1 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  refine read_writes_peel _ _ _ _ _ _ _ (fun x => ?_) fun h0_0 => ?_
  · rw [eq_ix3 x]; refine Eq.trans ?_ (upScr_slot i x0 x2 0 0 0 (by decide) (by decide) rfl _ (x 0) (x 1) (x 2)).symm
    unfold tentAt srcAt linAt extent centre
    pointwise [k1_pay4, k1_pay5, k1_pay6, k1_pay7, k1_pay8, k1_pay9, k1_pay10, k1_pay12]
    exact Finset.sum_congr rfl fun k _ => congrArg _ (dec_read harg3 x2 _ (by decide) _ _ k _)
  have hp : ¬j2.val % 128 < 64 := by
    have g0 : ¬(j0.val = 0 ∧ 0 ≤ j2.val ∧ j2.val < 64) ∧ ¬(j0.val = 1 ∧ 0 ≤ j2.val ∧ j2.val < 64) ∧ ¬(j0.val = 2 ∧ 0 ≤ j2.val ∧ j2.val < 64) :=
      ⟨fun h => h0_0 (slot_mem j0 j1 j2 0 _ h), fun h => h0_1 (slot_mem j0 j1 j2 1 _ h), fun h => h0_2 (slot_mem j0 j1 j2 2 _ h)⟩
    have g1 : ¬(j0.val = 0 ∧ 128 ≤ j2.val ∧ j2.val < 192) ∧ ¬(j0.val = 1 ∧ 128 ≤ j2.val ∧ j2.val < 192) ∧ ¬(j0.val = 2 ∧ 128 ≤ j2.val ∧ j2.val < 192) :=
      ⟨fun h => h1_0 (slot_mem j0 j1 j2 0 _ h), fun h => h1_1 (slot_mem j0 j1 j2 1 _ h), fun h => h1_2 (slot_mem j0 j1 j2 2 _ h)⟩
    have g2 : ¬(j0.val = 0 ∧ 256 ≤ j2.val ∧ j2.val < 320) ∧ ¬(j0.val = 1 ∧ 256 ≤ j2.val ∧ j2.val < 320) ∧ ¬(j0.val = 2 ∧ 256 ≤ j2.val ∧ j2.val < 320) :=
      ⟨fun h => h2_0 (slot_mem j0 j1 j2 0 _ h), fun h => h2_1 (slot_mem j0 j1 j2 1 _ h), fun h => h2_2 (slot_mem j0 j1 j2 2 _ h)⟩
    have g3 : ¬(j0.val = 0 ∧ 384 ≤ j2.val ∧ j2.val < 448) ∧ ¬(j0.val = 1 ∧ 384 ≤ j2.val ∧ j2.val < 448) ∧ ¬(j0.val = 2 ∧ 384 ≤ j2.val ∧ j2.val < 448) :=
      ⟨fun h => h3_0 (slot_mem j0 j1 j2 0 _ h), fun h => h3_1 (slot_mem j0 j1 j2 1 _ h), fun h => h3_2 (slot_mem j0 j1 j2 2 _ h)⟩
    have g4 : ¬(j0.val = 0 ∧ 512 ≤ j2.val ∧ j2.val < 576) ∧ ¬(j0.val = 1 ∧ 512 ≤ j2.val ∧ j2.val < 576) ∧ ¬(j0.val = 2 ∧ 512 ≤ j2.val ∧ j2.val < 576) :=
      ⟨fun h => h4_0 (slot_mem j0 j1 j2 0 _ h), fun h => h4_1 (slot_mem j0 j1 j2 1 _ h), fun h => h4_2 (slot_mem j0 j1 j2 2 _ h)⟩
    have g5 : ¬(j0.val = 0 ∧ 640 ≤ j2.val ∧ j2.val < 704) ∧ ¬(j0.val = 1 ∧ 640 ≤ j2.val ∧ j2.val < 704) ∧ ¬(j0.val = 2 ∧ 640 ≤ j2.val ∧ j2.val < 704) :=
      ⟨fun h => h5_0 (slot_mem j0 j1 j2 0 _ h), fun h => h5_1 (slot_mem j0 j1 j2 1 _ h), fun h => h5_2 (slot_mem j0 j1 j2 2 _ h)⟩
    have g6 : ¬(j0.val = 0 ∧ 768 ≤ j2.val ∧ j2.val < 832) ∧ ¬(j0.val = 1 ∧ 768 ≤ j2.val ∧ j2.val < 832) ∧ ¬(j0.val = 2 ∧ 768 ≤ j2.val ∧ j2.val < 832) :=
      ⟨fun h => h6_0 (slot_mem j0 j1 j2 0 _ h), fun h => h6_1 (slot_mem j0 j1 j2 1 _ h), fun h => h6_2 (slot_mem j0 j1 j2 2 _ h)⟩
    have g7 : ¬(j0.val = 0 ∧ 896 ≤ j2.val ∧ j2.val < 960) ∧ ¬(j0.val = 1 ∧ 896 ≤ j2.val ∧ j2.val < 960) ∧ ¬(j0.val = 2 ∧ 896 ≤ j2.val ∧ j2.val < 960) :=
      ⟨fun h => h7_0 (slot_mem j0 j1 j2 0 _ h), fun h => h7_1 (slot_mem j0 j1 j2 1 _ h), fun h => h7_2 (slot_mem j0 j1 j2 2 _ h)⟩
    clear h0_0 h0_1 h0_2 h1_0 h1_1 h1_2 h2_0 h2_1 h2_2 h3_0 h3_1 h3_2 h4_0 h4_1 h4_2 h5_0 h5_1 h5_2 h6_0 h6_1 h6_2 h7_0 h7_1 h7_2
    have hj : j0.val = 0 ∨ j0.val = 1 ∨ j0.val = 2 := by omega
    rcases hj with hj | hj | hj <;> simp only [hj, true_and, Nat.reduceEqDiff, false_and, not_false_eq_true, true_and, and_true, OfNat.ofNat_ne_zero, OfNat.zero_ne_ofNat, zero_ne_one, one_ne_zero, OfNat.ofNat_ne_one, OfNat.one_ne_ofNat] at g0 g1 g2 g3 g4 g5 g6 g7 <;> omega
  have hz : upScr (i 0) x0 x2 (ix3 j0 j1 j2) = 0 := by
    show upAt (i 0) x0 x2 j0 j1.val j2 = 0
    unfold upAt; rw [dif_neg hp]
  rw [hz]
  rw [View.writes_nil, harg5.read_unread]
  exact hpad j0 j1 j2 hp

end Cert.KernelIdeal.Hand

end
-- ==== Proof.Ideal.MergeOut.lean ====
/- What each point of the merging region leaves in its output block, element by element. -/
module

public import proofs.«01_k».proof.Proof.Ideal.MergeScrA
public import proofs.«01_k».proof.Proof.Ideal.MergeScrB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The output block after the first point. -/
theorem mergeOutA_3_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : isFirst i)
    (x0 : Vec Ideal S32x4 .f32) (x1 : Vec Ideal S4x8 .f32) (x2 : Vec Ideal S24x64x64 .f32) :
    mergeOutA_3 c i arg1 harg1 arg2 harg2 arg3 harg3 arg4 harg4 arg5 harg5 arg6 harg6 hc0 x0 x1 x2 = mergedBlk (i 0) x0 x1 x2 := by
  have hU := mergeScrA_0_eq c i arg1 harg1 arg2 harg2 arg3 harg3 arg4 harg4 arg5 harg5 arg6 harg6 hc0 x0 x1 x2
  have hR := mergeScrA_1_eq c i arg1 harg1 arg2 harg2 arg3 harg3 arg4 harg4 arg5 harg5 arg6 harg6 hc0 x0 x1 x2
  have hU' : View.canon (mergeRun_A c i arg1 harg1 arg2 harg2 arg3 harg3 arg4 harg4 arg5 harg5 arg6 harg6 hc0 x0 x1 x2).2.1 = upScr (i 0) x0 x2 := by
    rw [← hU]; unfold mergeScrA_0; rw [View.read_writes_junk_eq_canon]
  have hR' : View.canon (mergeRun_A c i arg1 harg1 arg2 harg2 arg3 harg3 arg4 harg4 arg5 harg5 arg6 harg6 hc0 x0 x1 x2).2.2.1 = acrossScr (i 0) x0 x1 := by
    rw [← hR]; unfold mergeScrA_1; rw [View.read_writes_junk_eq_canon]
  funext j
  idx_vars j
  unfold mergeOutA_3 mergeRun_A
  dsimp only
  refine read_writes_peel _ _ _ _ _ _ _ (fun x => ?_) fun h2 => ?_
  · rw [eq_ix4 x, mergedBlk_row (i 0) x0 x1 x2 2 (by decide) _ (x 0) (x 1) (x 2) (x 3)]
    pointwise [k1_pay1, k1_pay79, k1_pay80, k1_pay81]
    unfold mergeRun_A.sl.r_44
    pointwise [k1_pay81]
    refine Finset.sum_congr rfl fun l _ => ?_
    refine congrArg₂ (· * ·) ?_ ?_
    · show arg5.view.readCov (mergeRun_A c i arg1 harg1 arg2 harg2 arg3 harg3 arg4 harg4 arg5 harg5 arg6 harg6 hc0 x0 x1 x2).2.1 (Rect.unit (s := S3x416x1024) ![2, 0, 0] S1x416x1024.size _).toLoadRect (ix3 0 (x 2) l) = _
      rw [View.readCov_eq_canon', hU']; exact congrArg (upScr (i 0) x0 x2) (row_idx 2 (by decide) _ 0 (x 2) l)
    · show arg6.view.readCov (mergeRun_A c i arg1 harg1 arg2 harg2 arg3 harg3 arg4 harg4 arg5 harg5 arg6 harg6 hc0 x0 x1 x2).2.2.1 (Rect.unit (s := S416x1024) ![0, 0] S416x1024.size _).toLoadRect (ix2 (x 3) l) = _
      rw [View.readCov_eq_canon', hR']; exact congrArg (acrossScr (i 0) x0 x1) (whole_idx _ (x 3) l)
  refine read_writes_peel _ _ _ _ _ _ _ (fun x => ?_) fun h1 => ?_
  · rw [eq_ix4 x, mergedBlk_row (i 0) x0 x1 x2 1 (by decide) _ (x 0) (x 1) (x 2) (x 3)]
    pointwise [k1_pay1, k1_pay79, k1_pay80, k1_pay81]
    refine Finset.sum_congr rfl fun l _ => ?_
    refine congrArg₂ (· * ·) ?_ ?_
    · show arg5.view.readCov (mergeRun_A c i arg1 harg1 arg2 harg2 arg3 harg3 arg4 harg4 arg5 harg5 arg6 harg6 hc0 x0 x1 x2).2.1 (Rect.unit (s := S3x416x1024) ![1, 0, 0] S1x416x1024.size _).toLoadRect (ix3 0 (x 2) l) = _
      rw [View.readCov_eq_canon', hU']; exact congrArg (upScr (i 0) x0 x2) (row_idx 1 (by decide) _ 0 (x 2) l)
    · show arg6.view.readCov (mergeRun_A c i arg1 harg1 arg2 harg2 arg3 harg3 arg4 harg4 arg5 harg5 arg6 harg6 hc0 x0 x1 x2).2.2.1 (Rect.unit (s := S416x1024) ![0, 0] S416x1024.size _).toLoadRect (ix2 (x 3) l) = _
      rw [View.readCov_eq_canon', hR']; exact congrArg (acrossScr (i 0) x0 x1) (whole_idx _ (x 3) l)
  refine read_writes_peel _ _ _ _ _ _ _ (fun x => ?_) fun h0 => ?_
  · rw [eq_ix4 x, mergedBlk_row (i 0) x0 x1 x2 0 (by decide) _ (x 0) (x 1) (x 2) (x 3)]
    pointwise [k1_pay1, k1_pay79, k1_pay80, k1_pay81]
    refine Finset.sum_congr rfl fun l _ => ?_
    refine congrArg₂ (· * ·) ?_ ?_
    · show arg5.view.readCov (mergeRun_A c i arg1 harg1 arg2 harg2 arg3 harg3 arg4 harg4 arg5 harg5 arg6 harg6 hc0 x0 x1 x2).2.1 (Rect.unit (s := S3x416x1024) ![0, 0, 0] S1x416x1024.size _).toLoadRect (ix3 0 (x 2) l) = _
      rw [View.readCov_eq_canon', hU']; exact congrArg (upScr (i 0) x0 x2) (row_idx 0 (by decide) _ 0 (x 2) l)
    · show arg6.view.readCov (mergeRun_A c i arg1 harg1 arg2 harg2 arg3 harg3 arg4 harg4 arg5 harg5 arg6 harg6 hc0 x0 x1 x2).2.2.1 (Rect.unit (s := S416x1024) ![0, 0] S416x1024.size _).toLoadRect (ix2 (x 3) l) = _
      rw [View.readCov_eq_canon', hR']; exact congrArg (acrossScr (i 0) x0 x1) (whole_idx _ (x 3) l)
  exfalso
  have hj : j1.val = 0 ∨ j1.val = 1 ∨ j1.val = 2 := by omega
  rcases hj with hj | hj | hj
  · exact h0 (chan_mem j0 j1 j2 j3 0 hj)
  · exact h1 (chan_mem j0 j1 j2 j3 1 hj)
  · exact h2 (chan_mem j0 j1 j2 j3 2 hj)

/-- The output block after a later point. -/
theorem mergeOutB_3_eq (c : Dev nD) (i : grid1.Coords) (arg1 : Memref sig .tc .smem S32x4 .f32) (harg1 : arg1.IsWhole) (arg2 : Memref sig .tc .smem S4x8 .f32) (harg2 : arg2.IsWhole) (arg3 : Memref sig .tc .vmem S24x64x64 .f32) (harg3 : arg3.IsWhole) (arg4 : Memref sig .tc .vmem S1x3x416x416 .f32) (harg4 : arg4.IsWhole) (arg5 : Memref sig .tc .vmem S3x416x1024 .f32) (harg5 : arg5.IsWhole) (arg6 : Memref sig .tc .vmem S416x1024 .f32) (harg6 : arg6.IsWhole) (hc0 : ¬isFirst i)
    (x0 : Vec Ideal S32x4 .f32) (x1 : Vec Ideal S4x8 .f32) (x2 : Vec Ideal S24x64x64 .f32) (xs0 : Vec Ideal S3x416x1024 .f32) (xs1 : Vec Ideal S416x1024 .f32)
    (hpad0 : ∀ (ch : Fin 3) (y : Fin 416) (l : Fin 1024), ¬l.val % 128 < 64 → xs0 (ix3 ch y l) = 0)
    (hpad1 : ∀ (x : Fin 416) (l : Fin 1024), ¬l.val % 128 < 64 → xs1 (ix2 x l) = 0) :
    mergeOutB_3 c i arg1 harg1 arg2 harg2 arg3 harg3 arg4 harg4 arg5 harg5 arg6 harg6 hc0 x0 x1 x2 xs0 xs1 = mergedBlk (i 0) x0 x1 x2 := by
  have hU := mergeScrB_0_eq c i arg1 harg1 arg2 harg2 arg3 harg3 arg4 harg4 arg5 harg5 arg6 harg6 hc0 x0 x1 x2 xs0 xs1 hpad0
  have hR := mergeScrB_1_eq c i arg1 harg1 arg2 harg2 arg3 harg3 arg4 harg4 arg5 harg5 arg6 harg6 hc0 x0 x1 x2 xs0 xs1 hpad1
  have hU' : arg5.view.read _ (arg5.view.writes _ (harg5.unread xs0) (mergeRun_B c i arg1 harg1 arg2 harg2 arg3 harg3 arg4 harg4 arg5 harg5 arg6 harg6 hc0 x0 x1 x2 xs0 xs1).2.1) = upScr (i 0) x0 x2 := hU
  have hR' : arg6.view.read _ (arg6.view.writes _ (harg6.unread xs1) (mergeRun_B c i arg1 harg1 arg2 harg2 arg3 harg3 arg4 harg4 arg5 harg5 arg6 harg6 hc0 x0 x1 x2 xs0 xs1).2.2.1) = acrossScr (i 0) x0 x1 := hR
  funext j
  idx_vars j
  unfold mergeOutB_3 mergeRun_B
  dsimp only
  refine read_writes_peel _ _ _ _ _ _ _ (fun x => ?_) fun h2 => ?_
  · rw [eq_ix4 x, mergedBlk_row (i 0) x0 x1 x2 2 (by decide) _ (x 0) (x 1) (x 2) (x 3)]
    pointwise [k1_pay1, k1_pay79, k1_pay80, k1_pay81]
    unfold mergeRun_B.sl.r_44
    pointwise [k1_pay81]
    refine Finset.sum_congr rfl fun l _ => ?_
    refine congrArg₂ (· * ·) ?_ ?_
    · show View.readAt _ arg5.view (Rect.unit (s := S3x416x1024) ![2, 0, 0] S1x416x1024.size _).toLoadRect (arg5.view.writes _ (harg5.unread xs0) (mergeRun_B c i arg1 harg1 arg2 harg2 arg3 harg3 arg4 harg4 arg5 harg5 arg6 harg6 hc0 x0 x1 x2 xs0 xs1).2.1) (ix3 0 (x 2) l) = _
      rw [View.readAt_apply, hU']; exact congrArg (upScr (i 0) x0 x2) (row_idx 2 (by decide) _ 0 (x 2) l)
    · show View.readAt _ arg6.view (Rect.unit (s := S416x1024) ![0, 0] S416x1024.size _).toLoadRect (arg6.view.writes _ (harg6.unread xs1) (mergeRun_B c i arg1 harg1 arg2 harg2 arg3 harg3 arg4 harg4 arg5 harg5 arg6 harg6 hc0 x0 x1 x2 xs0 xs1).2.2.1) (ix2 (x 3) l) = _
      rw [View.readAt_apply, hR']; exact congrArg (acrossScr (i 0) x0 x1) (whole_idx _ (x 3) l)
  refine read_writes_peel _ _ _ _ _ _ _ (fun x => ?_) fun h1 => ?_
  · rw [eq_ix4 x, mergedBlk_row (i 0) x0 x1 x2 1 (by decide) _ (x 0) (x 1) (x 2) (x 3)]
    pointwise [k1_pay1, k1_pay79, k1_pay80, k1_pay81]
    refine Finset.sum_congr rfl fun l _ => ?_
    refine congrArg₂ (· * ·) ?_ ?_
    · show View.readAt _ arg5.view (Rect.unit (s := S3x416x1024) ![1, 0, 0] S1x416x1024.size _).toLoadRect (arg5.view.writes _ (harg5.unread xs0) (mergeRun_B c i arg1 harg1 arg2 harg2 arg3 harg3 arg4 harg4 arg5 harg5 arg6 harg6 hc0 x0 x1 x2 xs0 xs1).2.1) (ix3 0 (x 2) l) = _
      rw [View.readAt_apply, hU']; exact congrArg (upScr (i 0) x0 x2) (row_idx 1 (by decide) _ 0 (x 2) l)
    · show View.readAt _ arg6.view (Rect.unit (s := S416x1024) ![0, 0] S416x1024.size _).toLoadRect (arg6.view.writes _ (harg6.unread xs1) (mergeRun_B c i arg1 harg1 arg2 harg2 arg3 harg3 arg4 harg4 arg5 harg5 arg6 harg6 hc0 x0 x1 x2 xs0 xs1).2.2.1) (ix2 (x 3) l) = _
      rw [View.readAt_apply, hR']; exact congrArg (acrossScr (i 0) x0 x1) (whole_idx _ (x 3) l)
  refine read_writes_peel _ _ _ _ _ _ _ (fun x => ?_) fun h0 => ?_
  · rw [eq_ix4 x, mergedBlk_row (i 0) x0 x1 x2 0 (by decide) _ (x 0) (x 1) (x 2) (x 3)]
    pointwise [k1_pay1, k1_pay79, k1_pay80, k1_pay81]
    refine Finset.sum_congr rfl fun l _ => ?_
    refine congrArg₂ (· * ·) ?_ ?_
    · show View.readAt _ arg5.view (Rect.unit (s := S3x416x1024) ![0, 0, 0] S1x416x1024.size _).toLoadRect (arg5.view.writes _ (harg5.unread xs0) (mergeRun_B c i arg1 harg1 arg2 harg2 arg3 harg3 arg4 harg4 arg5 harg5 arg6 harg6 hc0 x0 x1 x2 xs0 xs1).2.1) (ix3 0 (x 2) l) = _
      rw [View.readAt_apply, hU']; exact congrArg (upScr (i 0) x0 x2) (row_idx 0 (by decide) _ 0 (x 2) l)
    · show View.readAt _ arg6.view (Rect.unit (s := S416x1024) ![0, 0] S416x1024.size _).toLoadRect (arg6.view.writes _ (harg6.unread xs1) (mergeRun_B c i arg1 harg1 arg2 harg2 arg3 harg3 arg4 harg4 arg5 harg5 arg6 harg6 hc0 x0 x1 x2 xs0 xs1).2.2.1) (ix2 (x 3) l) = _
      rw [View.readAt_apply, hR']; exact congrArg (acrossScr (i 0) x0 x1) (whole_idx _ (x 3) l)
  exfalso
  have hj : j1.val = 0 ∨ j1.val = 1 ∨ j1.val = 2 := by omega
  rcases hj with hj | hj | hj
  · exact h0 (chan_mem j0 j1 j2 j3 0 hj)
  · exact h1 (chan_mem j0 j1 j2 j3 1 hj)
  · exact h2 (chan_mem j0 j1 j2 j3 2 hj)

end Cert.KernelIdeal.Hand

end
-- ==== Proof.Ideal.MergeArray.lean ====
/- The array the merging region leaves, element by element. -/
module

public import proofs.«01_k».proof.Proof.Ideal.MergeOut
public import proofs.«01_k».proof.Proof.Ideal.Whole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The unused lanes of the first scratch buffer hold zero. -/
theorem upScr_pad (b : Fin 4) (x0 : Vec Ideal S32x4 .f32) (x2 : Vec Ideal S24x64x64 .f32) (ch : Fin 3) (y : Fin 416) (l : Fin 1024)
    (h : ¬l.val % 128 < 64) : upScr b x0 x2 (ix3 ch y l) = 0 := by
  show upAt b x0 x2 ch y.val l = 0
  unfold upAt; rw [dif_neg h]

/-- The unused lanes of the second scratch buffer hold zero. -/
theorem acrossScr_pad (b : Fin 4) (x0 : Vec Ideal S32x4 .f32) (x1 : Vec Ideal S4x8 .f32) (x : Fin 416) (l : Fin 1024)
    (h : ¬l.val % 128 < 64) : acrossScr b x0 x1 (ix2 x l) = 0 := by
  show acrossAt b x0 x1 x.val l = 0
  unfold acrossAt; rw [if_neg h]

/-- What every point leaves in its output block and in the two scratch buffers, from its own three blocks: the lanes
    a point does not write were zeroed by the first point and stay so. -/
theorem mergeAt_eq (c : Dev nD) : ∀ (n : ℕ) (hn : n < cfg1.N), mergeAt V c n hn
      = (mergedBlk (grid1.coords ⟨n, hn⟩ 0) (mblk V c 0 ⟨n, hn⟩) (mblk V c 1 ⟨n, hn⟩) (mblk V c 2 ⟨n, hn⟩),
         upScr (grid1.coords ⟨n, hn⟩ 0) (mblk V c 0 ⟨n, hn⟩) (mblk V c 2 ⟨n, hn⟩),
         acrossScr (grid1.coords ⟨n, hn⟩ 0) (mblk V c 0 ⟨n, hn⟩) (mblk V c 1 ⟨n, hn⟩)) := by
  intro n
  induction n with
  | zero =>
    intro hn
    rw [mergeAt_A V c ⟨0, hn⟩ (Nat.zero_mod _), mergeOutA_3_eq, mergeScrA_0_eq, mergeScrA_1_eq]
  | succ n ih =>
    intro hn
    have h0 : ¬(n + 1) % 4 = 0 := by have := Nat.lt_of_lt_of_eq hn N_1; omega
    have hprev := ih (Nat.lt_of_succ_lt hn)
    rw [mergeAt_B V c ⟨n + 1, hn⟩ h0]
    have hp : mergeAt V c ((⟨n + 1, hn⟩ : Fin cfg1.N).val - 1) (Nat.lt_of_le_of_lt (Nat.sub_le _ _) hn) = mergeAt V c n (Nat.lt_of_succ_lt hn) := rfl
    have hpad0 : ∀ (ch : Fin 3) (y : Fin 416) (l : Fin 1024), ¬l.val % 128 < 64 →
        (mergeAt V c ((⟨n + 1, hn⟩ : Fin cfg1.N).val - 1) (Nat.lt_of_le_of_lt (Nat.sub_le _ _) hn)).2.1 (ix3 ch y l) = 0 := by
      intro ch y l h; rw [hp, hprev]; exact upScr_pad _ _ _ ch y l h
    have hpad1 : ∀ (x : Fin 416) (l : Fin 1024), ¬l.val % 128 < 64 →
        (mergeAt V c ((⟨n + 1, hn⟩ : Fin cfg1.N).val - 1) (Nat.lt_of_le_of_lt (Nat.sub_le _ _) hn)).2.2 (ix2 x l) = 0 := by
      intro x l h; rw [hp, hprev]; exact acrossScr_pad _ _ _ x l h
    rw [mergeOutB_3_eq (hpad0 := hpad0) (hpad1 := hpad1), mergeScrB_0_eq (hpad := hpad0), mergeScrB_1_eq (hpad := hpad1)]

/-- The place each window's block has in its array at each point. -/
theorem merge_idx (t : Fin cfg1.N) : win1_0.index t = ![0, 0] ∧ win1_1.index t = ![0, 0] ∧ win1_2.index t = ![t.val, 0, 0] ∧ win1_3.index t = ![t.val, 0, 0, 0]
    ∧ (grid1.coords t 0).val = t.val := by
  revert t; decide +kernel

/-- The 24 patch planes of batch `b`. -/
def slab (b : Fin 4) (d : Vec Ideal S96x64x64 .f32) : Vec Ideal S24x64x64 .f32 :=
  fun j => d (ix3 (⟨24 * b.val + (j 0).val, by have h : (j 0).val < 24 := (j 0).isLt; omega⟩ : Fin 96) (j 1) (j 2))

/-- The canvas the merging region leaves, from the three arrays it is given. -/
def canvas (z : Vec Ideal S32x4 .f32) (w : Vec Ideal S4x8 .f32) (d : Vec Ideal S96x64x64 .f32) : Vec Ideal S4x3x416x416 .f32 :=
  fun i => ∑ l : Fin 1024, upAt (i 0) z (slab (i 0) d) (i 1) (i 2).val l * acrossAt (i 0) z w (i 3).val l

/-- Every step reads the whole array of placements. -/
theorem mblk0_eq (c : Dev nD) (t : Fin cfg1.N) : mblk V c 0 t = V c main_call0_v6 := by
  funext y
  idx_vars y
  blk_ext [mblk, (merge_idx t).1]

/-- Every step reads the whole array of shares. -/
theorem mblk1_eq (c : Dev nD) (t : Fin cfg1.N) : mblk V c 1 t = V c main_call0_v4_1 := by
  funext y
  idx_vars y
  blk_ext [mblk, (merge_idx t).2.1]

/-- A step reads its own batch's patches. -/
theorem mblk2_eq (c : Dev nD) (t : Fin cfg1.N) : mblk V c 2 t = slab (grid1.coords t 0) (V c main_call0_v5) := by
  funext y
  idx_vars y
  unfold slab
  have e := (merge_idx t).2.2.2.2
  blk_ext [mblk, (merge_idx t).2.2.1]

/-- The merging region's output array. -/
theorem merge_arr (c : Dev nD) : (mergeDat V c).arrAt 3 cfg1.N = canvas (V c main_call0_v6) (V c main_call0_v4_1) (V c main_call0_v5) := by
  refine (mergeDat V c).arrAt_eq_of_covers 3 _ (by decide +kernel) fun t hf y => ?_
  blk_simp
  rw [merge_after3, mergeAt_eq, mblk0_eq, mblk1_eq, mblk2_eq]
  have e : (win1_3.blk t).view.emb y = ix4 (grid1.coords t 0) (y 1) (y 2) (y 3) := by
    have e0 := (merge_idx t).2.2.2.2
    blk_ext [(merge_idx t).2.2.2.1]
  rw [e]
  rfl

end Cert.KernelIdeal.Hand

end
-- ==== Proof.Eq.Position.lean ====
/- The place in an object's patch where a canvas pixel falls, as the two programs compute it.

Both solve the object's placement for the canvas coordinate: one multiplies out the affine map first, the other divides
last.  Over the reals they are one number.  Where an extent or a centre is infinite, or an extent is zero, either both are
the same real number or both are infinite, and an infinite place lies outside the patch. -/
module

public import Idealize.ShloMosaic.Lib.IdealHost

@[expose] public section

noncomputable section

namespace Cert.Compose

open Idealize.ShloMosaic

/-- The constant two. -/
theorem bits_two : Ideal.ofBits .f32 0x40000000#32 = ((2 : ℝ) : EReal) := by
  simp [Ideal.ofBits, Ideal.ieee, -EReal.coe_mul]; norm_num

/-- The constant thirty-two. -/
theorem bits_thirtytwo : Ideal.ofBits .f32 0x42000000#32 = ((32 : ℝ) : EReal) := by
  simp [Ideal.ofBits, Ideal.ieee, -EReal.coe_mul]; norm_num

/-- The constant sixty-four. -/
theorem bits_sixtyfour : Ideal.ofBits .f32 0x42800000#32 = ((64 : ℝ) : EReal) := by
  simp [Ideal.ofBits, Ideal.ieee, -EReal.coe_mul]; norm_num

/-- The constant sixty-three. -/
theorem bits_sixtythree : Ideal.ofBits .f32 0x427C0000#32 = ((63 : ℝ) : EReal) := by
  simp [Ideal.ofBits, Ideal.ieee, -EReal.coe_mul]; norm_num

/-- The constant one half. -/
theorem bits_half : Ideal.ofBits .f32 0x3F000000#32 = ((1 / 2 : ℝ) : EReal) := by
  simp [Ideal.ofBits, Ideal.ieee, -EReal.coe_mul]; norm_num

/-- The constant minus one. -/
theorem bits_neg_one : Ideal.ofBits .f32 0xBF800000#32 = ((-1 : ℝ) : EReal) := by
  simp [Ideal.ofBits, Ideal.ieee, -EReal.coe_mul, -EReal.coe_neg]; norm_num

/-- The constant 415. -/
theorem bits_steps : Ideal.ofBits .f32 0x43CF8000#32 = ((415 : ℝ) : EReal) := by
  simp [Ideal.ofBits, Ideal.ieee, -EReal.coe_mul]; norm_num

/-- The background's depth. -/
theorem bits_background : Ideal.ofBits .f32 0xC47A0000#32 = ((-1000 : ℝ) : EReal) := by
  simp [Ideal.ofBits, Ideal.ieee, -EReal.coe_mul, -EReal.coe_neg]; norm_num

/-- The value that a running maximum starts from. -/
theorem bits_bot : Ideal.ofBits .f32 0xFF800000#32 = (⊥ : EReal) := by
  simp [Ideal.ofBits, Ideal.ieee]

/-- An extended real that is one of the two infinities. -/
def Inf (x : EReal) : Prop := x = ⊤ ∨ x = ⊥

/-- An infinity plus a real number is infinite. -/
theorem Inf.add_real {x : EReal} (h : Inf x) (r : ℝ) : Inf (x + r) := by
  rcases h with rfl | rfl
  · left; exact EReal.top_add_coe r
  · right; exact EReal.bot_add _

/-- A real number plus an infinity is infinite. -/
theorem Inf.real_add {x : EReal} (h : Inf x) (r : ℝ) : Inf (r + x) := by
  rw [add_comm]; exact h.add_real r

/-- The negative of an infinity is infinite. -/
theorem Inf.neg {x : EReal} (h : Inf x) : Inf (-x) := by
  rcases h with rfl | rfl
  · right; exact EReal.neg_top
  · left; exact EReal.neg_bot

/-- An infinity less a real number is infinite. -/
theorem Inf.sub_real {x : EReal} (h : Inf x) (r : ℝ) : Inf (x - r) := by
  rw [sub_eq_add_neg, ← EReal.coe_neg]; exact h.add_real _

/-- A real number less an infinity is infinite. -/
theorem Inf.real_sub {x : EReal} (h : Inf x) (r : ℝ) : Inf (r - x) := by
  rw [sub_eq_add_neg]; exact h.neg.real_add r

/-- The sum of two infinities is infinite. -/
theorem Inf.add {x y : EReal} (hx : Inf x) (hy : Inf y) : Inf (x + y) := by
  rcases hx with rfl | rfl <;> rcases hy with rfl | rfl
  · left; rfl
  · right; exact EReal.add_bot _
  · right; exact EReal.bot_add _
  · right; exact EReal.bot_add _

/-- An infinity times a nonzero real number is infinite. -/
theorem Inf.mul_real {x : EReal} (h : Inf x) {r : ℝ} (hr : r ≠ 0) : Inf (x * r) := by
  rcases lt_or_gt_of_ne hr with hr | hr
  · rcases h with rfl | rfl
    · right; exact EReal.top_mul_coe_of_neg hr
    · left; exact EReal.bot_mul_coe_of_neg hr
  · rcases h with rfl | rfl
    · left; exact EReal.top_mul_coe_of_pos hr
    · right; exact EReal.bot_mul_coe_of_pos hr

/-- A nonzero real number times an infinity is infinite. -/
theorem Inf.real_mul {x : EReal} (h : Inf x) {r : ℝ} (hr : r ≠ 0) : Inf (r * x) := by
  rw [mul_comm]; exact h.mul_real hr

/-- A quotient of an infinite dividend by a real that is not zero is infinite. -/
theorem Inf.div_real {x : EReal} (h : Inf x) {r : ℝ} (hr : r ≠ 0) : Inf (Ideal.div x r) := by
  rw [Ideal.div_coe hr]; exact h.mul_real (one_div_ne_zero hr)

/-- A quotient by zero is infinite. -/
theorem div_zero_inf (x : EReal) : Inf (Ideal.div x 0) := by
  unfold Ideal.div Inf; rw [if_pos rfl]; split
  · exact Or.inl rfl
  · exact Or.inr rfl

/-- A quotient by an infinite divisor is zero. -/
theorem div_inf (x : EReal) {s : EReal} (hs : Inf s) : Ideal.div x s = 0 := by
  rcases hs with rfl | rfl <;> simp [Ideal.div]

/-- A quotient of reals is the reals' quotient. -/
theorem div_real (x : ℝ) {y : ℝ} (h : y ≠ 0) : Ideal.div (x : EReal) (y : EReal) = ((x / y : ℝ) : EReal) := by
  rw [Ideal.div_coe h, ← EReal.coe_mul]; congr 1; ring

/-- Canvas pixel `p`'s coordinate, on the canvas's scale from −1 to 1. -/
def coord (p : ℕ) : ℝ := p * (2 / 415) - 1

/-- No canvas pixel lies at the canvas's middle, since the number of steps between pixels is odd. -/
theorem coord_ne (p : ℕ) : coord p ≠ 0 := by
  intro h
  have h1 : ((2 * p : ℕ) : ℝ) = ((415 : ℕ) : ℝ) := by
    push_cast; unfold coord at h; linarith
  have h2 : 2 * p = 415 := by exact_mod_cast h1
  omega

/-- The two computations of the place, at a canvas coordinate `l` that is not zero, a centre `c` and an extent `s`:
    one real number, or both infinite. -/
theorem place_agree (l : ℝ) (hl : l ≠ 0) (c s : EReal) :
    (∃ r : ℝ, (l : EReal) * Ideal.div ((32 : ℝ) : EReal) s
          + ((((1 : ℝ) : EReal) - Ideal.div c s) * ((32 : ℝ) : EReal) - ((1 / 2 : ℝ) : EReal)) = r
        ∧ Ideal.div ((Ideal.div (l - c) s + ((1 : ℝ) : EReal)) * ((64 : ℝ) : EReal)) ((2 : ℝ) : EReal) - ((1 / 2 : ℝ) : EReal) = r)
    ∨ (Inf ((l : EReal) * Ideal.div ((32 : ℝ) : EReal) s
          + ((((1 : ℝ) : EReal) - Ideal.div c s) * ((32 : ℝ) : EReal) - ((1 / 2 : ℝ) : EReal)))
        ∧ Inf (Ideal.div ((Ideal.div (l - c) s + ((1 : ℝ) : EReal)) * ((64 : ℝ) : EReal)) ((2 : ℝ) : EReal) - ((1 / 2 : ℝ) : EReal))) := by
  have h32 : (32 : ℝ) ≠ 0 := by norm_num
  have h64 : (64 : ℝ) ≠ 0 := by norm_num
  have h2 : (2 : ℝ) ≠ 0 := by norm_num
  by_cases hs : Inf s
  · left
    refine ⟨63 / 2, ?_, ?_⟩
    · rw [div_inf _ hs, div_inf _ hs, mul_zero, zero_add, sub_zero, ← EReal.coe_mul, ← EReal.coe_sub]
      congr 1; norm_num
    · rw [div_inf _ hs, zero_add, ← EReal.coe_mul, div_real _ h2, ← EReal.coe_sub]
      congr 1; norm_num
  · induction s with
    | top => exact absurd (Or.inl rfl) hs
    | bot => exact absurd (Or.inr rfl) hs
    | coe s =>
      by_cases h0 : s = 0
      · subst h0
        right
        refine ⟨?_, ?_⟩
        · exact ((div_zero_inf _).real_mul hl).add ((((div_zero_inf _).real_sub 1).mul_real h32).sub_real _)
        · exact ((((div_zero_inf _).add_real 1).mul_real h64).div_real h2).sub_real _
      · by_cases hc : Inf c
        · right
          refine ⟨?_, ?_⟩
          · rw [div_real _ h0, ← EReal.coe_mul]
            exact ((((hc.div_real h0).real_sub 1).mul_real h32).sub_real _).real_add _
          · exact (((((hc.real_sub l).div_real h0).add_real 1).mul_real h64).div_real h2).sub_real _
        · induction c with
          | top => exact absurd (Or.inl rfl) hc
          | bot => exact absurd (Or.inr rfl) hc
          | coe c =>
            left
            refine ⟨l * (32 / s) + ((1 - c / s) * 32 - 1 / 2), ?_, ?_⟩
            · rw [div_real _ h0, div_real _ h0, ← EReal.coe_mul, ← EReal.coe_sub, ← EReal.coe_mul, ← EReal.coe_sub, ← EReal.coe_add]
            · rw [← EReal.coe_sub, div_real _ h0, ← EReal.coe_add, ← EReal.coe_mul, div_real _ h2, ← EReal.coe_sub]
              congr 1; field_simp; ring

end Cert.Compose

end
-- ==== Proof.Eq.Sample.lean ====
/- Bilinear sampling as a weighted sum over a patch's pixels.

A pixel's weight falls off as a tent around the place that is sampled.  Only the two pixels beside the place have a
weight, so the sum over all the patch's pixels is the sum over those two, each counted only if it lies in the patch. -/
module

public import Idealize.ShloMosaic.Lib.IdealHost
public import proofs.«01_k».proof.Proof.Eq.Position

@[expose] public section

noncomputable section

namespace Cert.Compose

open Idealize.ShloMosaic

/-- A sum of reals, taken as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of reals, taken as an extended real. -/
theorem coe_max (a b : ℝ) : ((max a b : ℝ) : EReal) = max (a : EReal) (b : EReal) :=
  EReal.coe_strictMono.monotone.map_max

/-- A minimum of reals, taken as an extended real. -/
theorem coe_min (a b : ℝ) : ((min a b : ℝ) : EReal) = min (a : EReal) (b : EReal) :=
  EReal.coe_strictMono.monotone.map_min

/-- A sum over 1024 lanes, of which each 128 hold 64 numbers and then zeros. -/
theorem sum_lanes (F : Fin 1024 → EReal) (h : ∀ l : Fin 1024, ¬(l.val % 128 < 64) → F l = 0) :
    ∑ l : Fin 1024, F l = ∑ a : Fin 8, ∑ j : Fin 64, F ⟨128 * a.val + j.val, by omega⟩ := by
  have e : ∑ l : Fin 1024, F l = ∑ p : Fin 8 × Fin 128, F ⟨128 * p.1.val + p.2.val, by omega⟩ := by
    refine ((finProdFinEquiv : Fin 8 × Fin 128 ≃ Fin 1024).sum_comp F).symm.trans (Finset.sum_congr rfl fun p _ => congrArg F (Fin.ext ?_))
    show p.2.val + 128 * p.1.val = 128 * p.1.val + p.2.val
    omega
  rw [e, Fintype.sum_prod_type]
  refine Finset.sum_congr rfl fun a _ => ?_
  have s := Fin.sum_univ_add (a := 64) (b := 64) fun j : Fin 128 => F ⟨128 * a.val + j.val, by omega⟩
  refine s.trans ?_
  rw [Finset.sum_eq_zero (s := Finset.univ) (f := fun j : Fin 64 => F ⟨128 * a.val + (Fin.natAdd 64 j).val, by have := (Fin.natAdd 64 j).isLt; omega⟩), add_zero]
  · rfl
  · intro j _
    refine h _ ?_
    show ¬((128 * a.val + (64 + j.val)) % 128 < 64)
    omega

/-- A row of 64 numbers, continued by zeros on both sides. -/
def ext (f : Fin 64 → ℝ) (i : ℤ) : ℝ := if h : 0 ≤ i ∧ i ≤ 63 then f ⟨i.toNat, by omega⟩ else 0

/-- A sum with one term, at a whole place that may lie outside. -/
theorem sum_at (f : Fin 64 → ℝ) (a : ℝ) (i : ℤ) : ∑ k : Fin 64, (if (k.val : ℤ) = i then a * f k else 0) = a * ext f i := by
  unfold ext
  split
  · next h =>
    rw [Finset.sum_eq_single (⟨i.toNat, by omega⟩ : Fin 64)]
    · rw [if_pos]; show ((i.toNat : ℕ) : ℤ) = i; omega
    · intro k _ hk
      rw [if_neg]; intro e; apply hk; apply Fin.ext; show k.val = i.toNat; omega
    · intro hh; exact absurd (Finset.mem_univ _) hh
  · next h =>
    rw [mul_zero]
    refine Finset.sum_eq_zero fun k _ => ?_
    rw [if_neg]; intro e; exact h (by have := k.isLt; omega)

/-- A tent around `r` meets two whole numbers. -/
theorem tent_two (r : ℝ) (k : ℤ) :
    max (1 - |(k : ℝ) - r|) 0 = (if k = ⌊r⌋ then 1 - (r - ⌊r⌋) else 0) + (if k = ⌊r⌋ + 1 then r - ⌊r⌋ else 0) := by
  have h0 := Int.floor_le r
  have h1 := Int.lt_floor_add_one r
  by_cases ha : k = ⌊r⌋
  · subst ha
    rw [if_pos rfl, if_neg (by omega), abs_of_nonpos (by linarith), max_eq_left (by linarith)]; ring
  · by_cases hb : k = ⌊r⌋ + 1
    · subst hb
      rw [if_neg ha, if_pos rfl]; push_cast
      rw [abs_of_nonneg (by linarith), max_eq_left (by linarith)]; ring
    · rw [if_neg ha, if_neg hb, add_zero]
      refine max_eq_right ?_
      rcases lt_or_gt_of_ne ha with h | h
      · have : (k : ℝ) + 1 ≤ ⌊r⌋ := by exact_mod_cast h
        rw [abs_of_nonpos (by linarith)]; linarith
      · have h2 : ⌊r⌋ + 2 ≤ k := by omega
        have : ((⌊r⌋ : ℝ)) + 2 ≤ k := by exact_mod_cast h2
        rw [abs_of_nonneg (by linarith)]; linarith

/-- The weighted sum of a row around `r`: linear interpolation between the two neighbours. -/
theorem tent_sum (r : ℝ) (f : Fin 64 → ℝ) :
    ∑ k : Fin 64, max (1 - |(k.val : ℝ) - r|) 0 * f k = (1 - (r - ⌊r⌋)) * ext f ⌊r⌋ + (r - ⌊r⌋) * ext f (⌊r⌋ + 1) := by
  rw [← sum_at, ← sum_at, ← Finset.sum_add_distrib]
  refine Finset.sum_congr rfl fun k _ => ?_
  have h := tent_two r (k.val : ℤ)
  rw [Int.cast_natCast] at h
  rw [h, add_mul]; split_ifs <;> ring

/-- A patch of 64 by 64 numbers, continued by zeros on all sides. -/
def ext2 (f : Fin 64 → Fin 64 → ℝ) (i j : ℤ) : ℝ :=
  if h : (0 ≤ j ∧ j ≤ 63) ∧ (0 ≤ i ∧ i ≤ 63) then f ⟨i.toNat, by omega⟩ ⟨j.toNat, by omega⟩ else 0

/-- The doubly weighted sum of a patch: bilinear interpolation between the four neighbours. -/
theorem tent_sum_two (ry rx : ℝ) (f : Fin 64 → Fin 64 → ℝ) :
    ∑ j : Fin 64, max (1 - |(j.val : ℝ) - rx|) 0 * (∑ k : Fin 64, max (1 - |(k.val : ℝ) - ry|) 0 * f k j)
      = ext2 f ⌊ry⌋ ⌊rx⌋ * ((1 - (rx - ⌊rx⌋)) * (1 - (ry - ⌊ry⌋))) + ext2 f ⌊ry⌋ (⌊rx⌋ + 1) * ((rx - ⌊rx⌋) * (1 - (ry - ⌊ry⌋)))
        + ext2 f (⌊ry⌋ + 1) ⌊rx⌋ * ((1 - (rx - ⌊rx⌋)) * (ry - ⌊ry⌋)) + ext2 f (⌊ry⌋ + 1) (⌊rx⌋ + 1) * ((rx - ⌊rx⌋) * (ry - ⌊ry⌋)) := by
  simp only [tent_sum ry]
  rw [tent_sum rx]
  generalize ⌊ry⌋ = a
  generalize ⌊rx⌋ = b
  generalize a + 1 = a1
  generalize b + 1 = b1
  unfold ext ext2
  split_ifs <;> first | (exfalso; omega) | (ring_nf)

/-- The kernel's weight of a pixel, as it is computed from the place `s` that is sampled. -/
def tent (w s : EReal) (k : ℕ) : EReal := max (w - w * max ((((k : ℝ)) : EReal) - s) (-((((k : ℝ)) : EReal) - s))) 0

/-- Around an infinite place no pixel has a weight. -/
theorem tent_inf {w : ℝ} (hw : 0 ≤ w) {s : EReal} (hs : Inf s) (k : ℕ) : tent w s k = 0 := by
  have hm : max ((((k : ℝ)) : EReal) - s) (-((((k : ℝ)) : EReal) - s)) = ⊤ := by
    rcases hs.real_sub (k : ℝ) with h | h <;> rw [h] <;> simp
  unfold tent
  rw [hm]
  rcases hw.eq_or_lt with h | h
  · subst h; simp
  · rw [EReal.coe_mul_top_of_pos h, sub_eq_add_neg, EReal.neg_top, EReal.add_bot]; exact max_eq_right bot_le

/-- Around a real place the weights are the tent's. -/
theorem tent_real {w : ℝ} (hw : 0 ≤ w) (r : ℝ) (k : ℕ) : tent w r k = ((w * max (1 - |(k : ℝ) - r|) 0 : ℝ) : EReal) := by
  unfold tent
  rw [← EReal.coe_sub, ← EReal.coe_neg, ← coe_max, ← EReal.coe_mul, ← EReal.coe_sub, ← EReal.coe_zero, ← coe_max]
  congr 1
  rw [← abs_eq_max_neg, mul_max_of_nonneg _ _ hw, mul_zero]
  congr 1; ring

end Cert.Compose

end
-- ==== Proof.Eq.Share.lean ====
/- The shares of a batch's objects, and the decoded pixels.

A share is a softmax over eight depths and the background's.  The kernel takes the largest of the eight depths off
before it exponentiates, the reference the largest of all nine; what is taken off cancels.  A decoded pixel is a value
of the logistic function, so it is a real number whatever its argument is. -/
module

public import Idealize.ShloMosaic.Lib.IdealHost
public import proofs.«01_k».proof.Proof.Eq.Sample

@[expose] public section

noncomputable section

namespace Cert.Compose

open Idealize.ShloMosaic

/-- A decoded pixel before the logistic function: two dense layers with a rectifier between them. -/
def logit (z : Fin 64 → EReal) (w1 : Fin 64 → Fin 128 → EReal) (b1 : Fin 128 → EReal) (w2 : Fin 128 → EReal) (b2 : EReal) : EReal :=
  ∑ k : Fin 128, max (∑ l : Fin 64, z l * w1 l k + b1 k) 0 * w2 k + b2

/-- A value of the logistic function is a real number. -/
theorem logistic_real (z : EReal) : ∃ r : ℝ, Ideal.div 1 (1 + Ideal.exp (-z)) = r := by
  induction z with
  | bot => exact ⟨0, by
      rw [show Ideal.exp (-⊥) = ⊤ by rw [EReal.neg_bot]; rfl, show (1 : EReal) + ⊤ = ⊤ from EReal.coe_add_top 1, div_inf _ (Or.inl rfl)]; rfl⟩
  | top => exact ⟨1, by
      rw [show Ideal.exp (-⊤) = 0 by rw [EReal.neg_top]; rfl, add_zero, ← EReal.coe_one, div_real _ one_ne_zero, div_one]⟩
  | coe z => exact ⟨1 / (1 + Real.exp (-z)), by
      rw [show Ideal.exp (-(z : EReal)) = ((Real.exp (-z) : ℝ) : EReal) from rfl, ← EReal.coe_one, ← EReal.coe_add,
        div_real _ (by positivity)]⟩

/-- A depth's exponential, as a real number. -/
def lift (d : EReal) : ℝ := (Ideal.exp d).toReal

/-- The exponential of −∞ is zero. -/
theorem lift_bot : lift ⊥ = 0 := by
  show (0 : EReal).toReal = 0
  exact EReal.toReal_zero

/-- The exponential is not negative. -/
theorem lift_nonneg (d : EReal) : 0 ≤ lift d := by
  induction d with
  | bot => exact lift_bot.ge
  | top => show 0 ≤ (⊤ : EReal).toReal; exact EReal.toReal_top.ge
  | coe d => exact (Real.exp_pos d).le

/-- What is taken off a depth comes out of its exponential as a factor. -/
theorem exp_sub {d : EReal} (hd : d < ⊤) (M : ℝ) : Ideal.exp (d - M) = ((lift d * Real.exp (-M) : ℝ) : EReal) := by
  induction d with
  | bot =>
    rw [show (⊥ : EReal) - (M : EReal) = ⊥ from EReal.bot_sub _]
    show (0 : EReal) = _
    rw [lift_bot, zero_mul, EReal.coe_zero]
  | top => exact absurd hd (lt_irrefl _)
  | coe d =>
    rw [← EReal.coe_sub]
    show ((Real.exp (d - M) : ℝ) : EReal) = ((Real.exp d * Real.exp (-M) : ℝ) : EReal)
    rw [← Real.exp_add]; rfl

/-- The exponentials' total over a batch: the objects' and the background's. -/
def total (d : Fin 8 → EReal) : ℝ := ∑ x, lift (d x) + Real.exp (-1000)

/-- The sum of the exponentials and the background's is positive. -/
theorem total_pos (d : Fin 8 → EReal) : 0 < total d :=
  add_pos_of_nonneg_of_pos (Finset.sum_nonneg fun x _ => lift_nonneg _) (Real.exp_pos _)

/-- Object `a`'s share in its batch. -/
def share (d : Fin 8 → EReal) (a : Fin 8) : ℝ := lift (d a) / total d

/-- A share is not negative. -/
theorem share_nonneg (d : Fin 8 → EReal) (a : Fin 8) : 0 ≤ share d a := div_nonneg (lift_nonneg _) (total_pos d).le

/-- The softmax with a real number taken off is the share. -/
theorem share_real (d : Fin 8 → EReal) (hd : ∀ a, d a < ⊤) (M : ℝ) (a : Fin 8) :
    Ideal.div (Ideal.exp (d a - M)) (∑ x, Ideal.exp (d x - M) + Ideal.exp (((-1000 : ℝ) : EReal) - M)) = (share d a : EReal) := by
  have hb : Ideal.exp (((-1000 : ℝ) : EReal) - M) = ((Real.exp (-1000) * Real.exp (-M) : ℝ) : EReal) :=
    exp_sub (EReal.coe_lt_top _) M
  have hM := Real.exp_pos (-M)
  have hT := total_pos d
  rw [hb, Finset.sum_congr rfl fun x _ => exp_sub (hd x) M, exp_sub (hd a), ← coe_sum, ← EReal.coe_add, ← Finset.sum_mul, ← add_mul]
  change Ideal.div _ ((total d * Real.exp (-M) : ℝ) : EReal) = _
  rw [div_real _ (by positivity)]
  congr 1
  unfold share
  field_simp

/-- THE KERNEL'S SHARE: the softmax with the largest of the eight depths taken off. -/
theorem share_kernel (d : Fin 8 → EReal) (hd : ∀ a, d a < ⊤) (a : Fin 8) :
    Ideal.div (Ideal.exp (d a - Finset.fold max ⊥ d Finset.univ))
      (∑ x, Ideal.exp (d x - Finset.fold max ⊥ d Finset.univ) + Ideal.exp (((-1000 : ℝ) : EReal) - Finset.fold max ⊥ d Finset.univ))
        = (share d a : EReal) := by
  have hlt : Finset.fold max ⊥ d Finset.univ < ⊤ := (Finset.fold_max_lt _).mpr ⟨bot_lt_top, fun x _ => hd x⟩
  have hle : ∀ x, d x ≤ Finset.fold max ⊥ d Finset.univ := fun x => (Finset.le_fold_max _).mpr (Or.inr ⟨x, Finset.mem_univ _, le_rfl⟩)
  generalize Finset.fold max ⊥ d Finset.univ = M at hlt hle
  induction M with
  | top => exact absurd hlt (lt_irrefl _)
  | coe M => exact share_real d hd M a
  | bot =>
    have h0 : ∀ x, d x = ⊥ := fun x => le_bot_iff.mp (hle x)
    have he : ∀ x, Ideal.exp (d x - ⊥) = 0 := fun x => by rw [h0 x]; rfl
    have hb : Ideal.exp (((-1000 : ℝ) : EReal) - ⊥) = ⊤ := rfl
    rw [Finset.sum_congr rfl fun x _ => he x, he, hb, Finset.sum_const_zero, zero_add, div_inf _ (Or.inl rfl)]
    unfold share
    rw [h0, lift_bot, zero_div, EReal.coe_zero]

/-- THE REFERENCE'S SHARE: the softmax over nine depths, the background's first, with the largest taken off. -/
theorem share_reference (d : Fin 8 → EReal) (hd : ∀ a, d a < ⊤) (v : Fin 9 → EReal) (h0 : v 0 = ((-1000 : ℝ) : EReal))
    (hv : ∀ a : Fin 8, v a.succ = d a) (a : Fin 8) :
    Ideal.div (Ideal.exp (v a.succ - max ⊥ (Finset.fold max ⊥ v Finset.univ)))
      (∑ x, Ideal.exp (v x - max ⊥ (Finset.fold max ⊥ v Finset.univ))) = (share d a : EReal) := by
  have hlt : max ⊥ (Finset.fold max ⊥ v Finset.univ) < ⊤ := by
    refine max_lt bot_lt_top ((Finset.fold_max_lt _).mpr ⟨bot_lt_top, fun x _ => ?_⟩)
    refine Fin.cases ?_ (fun x => ?_) x
    · rw [h0]; exact EReal.coe_lt_top _
    · rw [hv]; exact hd x
  have hle : v 0 ≤ max ⊥ (Finset.fold max ⊥ v Finset.univ) :=
    le_max_of_le_right ((Finset.le_fold_max _).mpr (Or.inr ⟨0, Finset.mem_univ _, le_rfl⟩))
  generalize max ⊥ (Finset.fold max ⊥ v Finset.univ) = M at hlt hle
  induction M with
  | top => exact absurd hlt (lt_irrefl _)
  | bot => rw [h0] at hle; exact absurd hle (not_le.mpr (EReal.bot_lt_coe _))
  | coe M =>
    rw [Fin.sum_univ_succ, h0, hv, Finset.sum_congr rfl fun x _ => by rw [hv x], add_comm]
    exact share_real d hd M a
-- ==== Proof.Ideal.KernelValue.lean ====
/- The kernel program's result, element by element, from its eight arguments. -/
module

public import proofs.«01_k».proof.Proof.Ideal.DecodeValue
public import proofs.«01_k».proof.Proof.Ideal.MergeArray
public import proofs.«01_k».proof.Proof.Eq.Share

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Compose
open Idealize.ShloMosaic.Pipeline (Dat Cfg Window)

variable (m : (ℓ : Loc nD τ sig) → Buf (Elt Ideal) ℓ) (c : Dev nD)

/-- The latent vectors, one row for each object. -/
theorem entry0_v0 (i : Fin 32) (l : Fin 64) : entry0 m c main_call0_v0 (ix2 i l) = m ((c.tc : Thread nD τ).loc main_arg2) (ix3 (⟨i.val / 8, by omega⟩ : Fin 4) (⟨i.val % 8, by omega⟩ : Fin 8) l) := by
  unfold entry0 V1
  entry_read
  pointwise

/-- The first layer's offsets, as a row. -/
theorem entry0_v1 (l : Fin 128) : entry0 m c main_call0_v1 (ix2 (0 : Fin 1) l) = m ((c.tc : Thread nD τ).loc main_arg5) (ix1 l) := by
  unfold entry0 V1
  entry_read
  pointwise

/-- The second layer's offsets, as a row. -/
theorem entry0_v2 (l : Fin 12288) : entry0 m c main_call0_v2 (ix2 (0 : Fin 1) l) = m ((c.tc : Thread nD τ).loc main_arg7) (ix1 l) := by
  unfold entry0 V1
  entry_read
  pointwise

/-- The depths, one row for each batch. -/
theorem entry0_v3 (b : Fin 4) (a : Fin 8) : entry0 m c main_call0_v3 (ix2 b a) = m ((c.tc : Thread nD τ).loc main_arg3) (ix3 b a (0 : Fin 1)) := by
  unfold entry0 V1
  entry_read
  pointwise

/-- The first layer's weights. -/
theorem entry0_arg4 : entry0 m c main_arg4 = m ((c.tc : Thread nD τ).loc main_arg4) := V1_of m c main_arg4 (by decide)

/-- The second layer's weights. -/
theorem entry0_arg6 : entry0 m c main_arg6 = m ((c.tc : Thread nD τ).loc main_arg6) := V1_of m c main_arg6 (by decide)

/-- The placements, one row for each object. -/
theorem entry1_v6 (n : Fin 32) (k : Fin 4) : entry1 m c main_call0_v6 (ix2 n k) = m ((c.tc : Thread nD τ).loc main_arg0) (ix3 (⟨n.val / 8, by omega⟩ : Fin 4) (⟨n.val % 8, by omega⟩ : Fin 8) k) := by
  have e : V2 m (outsA m) c main_arg0 = m ((c.tc : Thread nD τ).loc main_arg0) :=
    (V2_of m (outsA m) c main_arg0 (by decide)).trans (V1_of m c main_arg0 (by decide))
  unfold entry1 V3
  entry_read
  pointwise
  exact congrFun e _

/-- The decoded patches, one plane for each object and channel. -/
theorem entry1_v5 (p : Fin 96) (k l : Fin 64) : entry1 m c main_call0_v5 (ix3 p k l)
    = exit0 m c main_call0_v4_0 (ix2 (⟨p.val / 3, by omega⟩ : Fin 32) (⟨p.val % 3 * 4096 + k.val * 64 + l.val, by omega⟩ : Fin 12288)) := by
  unfold exit0 entry1 V3
  entry_read
  pointwise

/-- The shares. -/
theorem entry1_v4_1 : entry1 m c main_call0_v4_1 = exit0 m c main_call0_v4_1 := V3_of m (outsA m) c main_call0_v4_1 (by decide)

/-- A decoded pixel. -/
theorem decoded_at (n : Fin 32) (q : Fin 12288) : exit0 m c main_call0_v4_0 (ix2 n q)
    = Ideal.div 1 (1 + Ideal.exp (-logit (fun i => m ((c.tc : Thread nD τ).loc main_arg2) (ix3 (⟨n.val / 8, by omega⟩ : Fin 4) (⟨n.val % 8, by omega⟩ : Fin 8) i))
        (fun i j => m ((c.tc : Thread nD τ).loc main_arg4) (ix2 i j)) (fun j => m ((c.tc : Thread nD τ).loc main_arg5) (ix1 j))
        (fun j => m ((c.tc : Thread nD τ).loc main_arg6) (ix2 j q)) (m ((c.tc : Thread nD τ).loc main_arg7) (ix1 q)))) := by
  have e : exit0 m c main_call0_v4_0 (ix2 n q) = Ideal.div 1 (1 + Ideal.exp (0 - logit (fun i => entry0 m c main_call0_v0 (ix2 n i))
        (fun i j => entry0 m c main_arg4 (ix2 i j)) (fun j => entry0 m c main_call0_v1 (ix2 (0 : Fin 1) j))
        (fun j => entry0 m c main_arg6 (ix2 j q)) (entry0 m c main_call0_v2 (ix2 (0 : Fin 1) q)))) := by
    rw [decode_out6, decode_arr6]; rfl
  rw [e, zero_sub, entry0_v2, entry0_arg4, entry0_arg6]
  simp only [entry0_v0, entry0_v1]

/-- An object's depth. -/
def depthOf (b : Fin 4) (a : Fin 8) : EReal := m ((c.tc : Thread nD τ).loc main_arg3) (ix3 b a (0 : Fin 1))

/-- One of the four numbers that place an object on the canvas. -/
def placeOf (b : Fin 4) (a : Fin 8) (k : Fin 4) : EReal := m ((c.tc : Thread nD τ).loc main_arg0) (ix3 b a k)

/-- An object's share. -/
theorem share_at (b : Fin 4) (a : Fin 8) (hd : ∀ x : Fin 8, depthOf m c b x < ⊤) :
    exit0 m c main_call0_v4_1 (ix2 b a) = (share (depthOf m c b) a : EReal) := by
  have e : exit0 m c main_call0_v4_1 (ix2 b a) = shares (entry0 m c main_call0_v3) (ix2 b a) := by
    rw [decode_out7, decode_arr7]
  have e3 : (fun x : Fin 8 => entry0 m c main_call0_v3 (ix2 b x)) = depthOf m c b :=
    funext fun x => entry0_v3 m c b x
  rw [e, ← share_kernel _ hd a, ← e3, ← bits_bot, ← bits_background]
  rfl

/-- The kernel's place along one axis is the affine map's value. -/
theorem srcAt_eq (x s : EReal) (p : Fin 416) : srcAt x s p.val
    = ((coord p.val : ℝ) : EReal) * Ideal.div ((32 : ℝ) : EReal) (extent s)
      + ((((1 : ℝ) : EReal) - Ideal.div (centre x) (extent s)) * ((32 : ℝ) : EReal) - ((1 / 2 : ℝ) : EReal)) := by
  have hi : ∀ q : Fin 416, (BitVec.ofNat 32 q.val).toInt = (q.val : ℤ) := by decide
  have hl : linAt p.val = ((coord p.val : ℝ) : EReal) := by
    show (((BitVec.ofNat 32 p.val).toInt : ℝ) : EReal) * ((2 / 415 : ℝ) : EReal) - ((1 : ℝ) : EReal) = _
    rw [hi p, ← EReal.coe_mul, ← EReal.coe_sub]
    congr 1
  unfold srcAt
  rw [hl, bits_thirtytwo, bits_half]
  rfl

/-- The kernel's weight of a pixel is the tent's. -/
theorem tentAt_eq (w x s : EReal) (p : ℕ) (k : Fin 64) : tentAt w x s p k.val = tent w (srcAt x s p) k.val := by
  have hi : ∀ q : Fin 64, (BitVec.ofNat 32 q.val).toInt = (q.val : ℤ) := by decide
  unfold tentAt tent
  show max (w - w * max ((((BitVec.ofNat 32 k.val).toInt : ℝ) : EReal) - srcAt x s p) (-((((BitVec.ofNat 32 k.val).toInt : ℝ) : EReal) - srcAt x s p))) 0 = _
  rw [hi k, Int.cast_natCast]

/-- Object `a` of batch `b`, among all the objects. -/
def obj (b : Fin 4) (a : Fin 8) : Fin 32 := ⟨8 * b.val + a.val, by omega⟩

/-- The placement numbers that the merge call reads. -/
theorem placement_at (b : Fin 4) (a : Fin 8) (k : Fin 4) : entry1 m c main_call0_v6 (ix2 (obj b a) k) = placeOf m c b a k := by
  rw [entry1_v6]
  have e : ∀ (p p' : Fin 4) (q q' : Fin 8), p = p' → q = q' → m ((c.tc : Thread nD τ).loc main_arg0) (ix3 p q k) = m ((c.tc : Thread nD τ).loc main_arg0) (ix3 p' q' k) := by
    rintro p _ q _ rfl rfl; rfl
  exact e _ _ _ _ (Fin.ext (by show (8 * b.val + a.val) / 8 = b.val; omega)) (Fin.ext (by show (8 * b.val + a.val) % 8 = a.val; omega))

/-- The patches that the merge call reads. -/
theorem patch_at (b : Fin 4) (a : Fin 8) (ch : Fin 3) (k j : Fin 64) :
    slab b (entry1 m c main_call0_v5) (ix3 (⟨3 * a.val + ch.val, by omega⟩ : Fin 24) k j)
      = exit0 m c main_call0_v4_0 (ix2 (obj b a) (⟨ch.val * 4096 + k.val * 64 + j.val, by omega⟩ : Fin 12288)) := by
  refine (entry1_v5 m c (⟨24 * b.val + (3 * a.val + ch.val), by omega⟩ : Fin 96) k j).trans ?_
  have e : ∀ (p p' : Fin 32) (q q' : Fin 12288), p = p' → q = q' → exit0 m c main_call0_v4_0 (ix2 p q) = exit0 m c main_call0_v4_0 (ix2 p' q') := by
    rintro p _ q _ rfl rfl; rfl
  exact e _ _ _ _ (Fin.ext (by show (24 * b.val + (3 * a.val + ch.val)) / 3 = 8 * b.val + a.val; omega))
    (Fin.ext (by show (24 * b.val + (3 * a.val + ch.val)) % 3 * 4096 + k.val * 64 + j.val = ch.val * 4096 + k.val * 64 + j.val; omega))

/-- The first factor of a lane's product: the patch's column, resampled along the vertical axis. -/
theorem up_lane (b : Fin 4) (a : Fin 8) (ch : Fin 3) (y : Fin 416) (j : Fin 64) (h : 128 * a.val + j.val < 1024) :
    upAt b (entry1 m c main_call0_v6) (slab b (entry1 m c main_call0_v5)) ch y.val ⟨128 * a.val + j.val, h⟩
      = ∑ k : Fin 64, tent ((1 : ℝ) : EReal) (srcAt (placeOf m c b a 1) (placeOf m c b a 3) y.val) k.val
          * exit0 m c main_call0_v4_0 (ix2 (obj b a) (⟨ch.val * 4096 + k.val * 64 + j.val, by omega⟩ : Fin 12288)) := by
  have hm : (128 * a.val + j.val) % 128 < 64 := by omega
  unfold upAt
  rw [dif_pos hm]
  refine Finset.sum_congr rfl fun k _ => ?_
  have e : ∀ (n : Fin 32) (r : Fin 24) (l : Fin 64), n = obj b a → r = (⟨3 * a.val + ch.val, by omega⟩ : Fin 24) → l = j →
      tentAt 1 (entry1 m c main_call0_v6 (ix2 n (1 : Fin 4))) (entry1 m c main_call0_v6 (ix2 n (3 : Fin 4))) y.val k.val
          * slab b (entry1 m c main_call0_v5) (ix3 r k l)
        = tent ((1 : ℝ) : EReal) (srcAt (placeOf m c b a 1) (placeOf m c b a 3) y.val) k.val
          * exit0 m c main_call0_v4_0 (ix2 (obj b a) (⟨ch.val * 4096 + k.val * 64 + j.val, by omega⟩ : Fin 12288)) := by
    rintro n r l rfl rfl rfl
    rw [placement_at, placement_at, patch_at, tentAt_eq]; rfl
  exact e _ _ _ (Fin.ext (by show 8 * b.val + (128 * a.val + j.val) / 128 = 8 * b.val + a.val; omega))
    (Fin.ext (by show 3 * ((128 * a.val + j.val) / 128) + ch.val = 3 * a.val + ch.val; omega))
    (Fin.ext (by show (128 * a.val + j.val) % 128 = j.val; omega))

/-- The second factor of a lane's product: the column's weight along the horizontal axis. -/
theorem across_lane (b : Fin 4) (a : Fin 8) (x : Fin 416) (j : Fin 64) (h : 128 * a.val + j.val < 1024) :
    acrossAt b (entry1 m c main_call0_v6) (entry1 m c main_call0_v4_1) x.val ⟨128 * a.val + j.val, h⟩
      = tent (exit0 m c main_call0_v4_1 (ix2 b a)) (srcAt (placeOf m c b a 0) (placeOf m c b a 2) x.val) j.val := by
  have hm : (128 * a.val + j.val) % 128 < 64 := by omega
  unfold acrossAt
  rw [if_pos hm]
  have e : ∀ (n : Fin 32) (r : Fin 8) (l : Fin 64), n = obj b a → r = a → l = j →
      tentAt (entry1 m c main_call0_v4_1 (ix2 b r)) (entry1 m c main_call0_v6 (ix2 n (0 : Fin 4))) (entry1 m c main_call0_v6 (ix2 n (2 : Fin 4))) x.val l.val
        = tent (exit0 m c main_call0_v4_1 (ix2 b a)) (srcAt (placeOf m c b a 0) (placeOf m c b a 2) x.val) j.val := by
    rintro n r l rfl rfl rfl
    rw [placement_at, placement_at, entry1_v4_1, tentAt_eq]
  exact e _ _ ⟨(128 * a.val + j.val) % 128, hm⟩ (Fin.ext (by show 8 * b.val + (128 * a.val + j.val) / 128 = 8 * b.val + a.val; omega))
    (Fin.ext (by show (128 * a.val + j.val) / 128 = a.val; omega))
    (Fin.ext (by show (128 * a.val + j.val) % 128 = j.val; omega))

/-- THE KERNEL'S RESULT at a canvas pixel: the sum over the batch's objects of the doubly weighted patches. -/
theorem result_at (b : Fin 4) (ch : Fin 3) (y x : Fin 416) :
    (mergeDat (entry1 m) c).arrAt 3 cfg1.N (ix4 b ch y x)
      = ∑ a : Fin 8, ∑ j : Fin 64,
          (∑ k : Fin 64, tent ((1 : ℝ) : EReal) (srcAt (placeOf m c b a 1) (placeOf m c b a 3) y.val) k.val
            * exit0 m c main_call0_v4_0 (ix2 (obj b a) (⟨ch.val * 4096 + k.val * 64 + j.val, by omega⟩ : Fin 12288)))
          * tent (exit0 m c main_call0_v4_1 (ix2 b a)) (srcAt (placeOf m c b a 0) (placeOf m c b a 2) x.val) j.val := by
  rw [merge_arr]
  show ∑ l : Fin 1024, upAt b (entry1 m c main_call0_v6) (slab b (entry1 m c main_call0_v5)) ch y.val l
      * acrossAt b (entry1 m c main_call0_v6) (entry1 m c main_call0_v4_1) x.val l = _
  rw [sum_lanes _ fun l hl => by unfold acrossAt; rw [if_neg hl, mul_zero]]
  refine Finset.sum_congr rfl fun a _ => Finset.sum_congr rfl fun j _ => ?_
  rw [up_lane, across_lane]

end Cert.KernelIdeal.Hand

end
-- ==== Proof.Ref.Gather.lean ====
/- # The three gathers of the reference, read at an index

A gather whose indices are one table, or a table of triples, reads its operand at the indices the table holds, each
read as a signed number and cut to the operand's range. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic

/-- The gather of depths: row `r` is the operand's row that the table names at `r`. -/
theorem gather_depth {α : Type} (x : S33x1.Idx → α) (idx : IVec S36x1 32) (r : Fin 36) (u : Fin 1) :
    Host.gather gather_S33x1_S36x1_S36x1_1_0_n_n_0_1_11 x idx (ix2 r u)
      = x (ix2 ⟨min (idx (ix2 r 0)).toInt.toNat 32, by omega⟩ u) := by
  unfold Host.gather
  congr 1
  funext a
  refine Fin.ext ?_
  match a with
  | ⟨0, _⟩ =>
    show (gather_S33x1_S36x1_S36x1_1_0_n_n_0_1_11).start (ix2 r u) idx 0 + 0 + 0 = _
    have h : (gather_S33x1_S36x1_S36x1_1_0_n_n_0_1_11).siIdx (ix2 r u) ⟨0, by decide⟩ = ix2 r 0 := by
      funext b; refine Fin.ext ?_
      match b with
      | ⟨0, _⟩ => rfl
      | ⟨1, _⟩ => rfl
    exact congrArg (fun i => min (idx i).toInt.toNat 32) h
  | ⟨1, _⟩ =>
    show 0 + 0 + u.val = u.val
    omega

/-- The gather of images: picture `r` is the operand's picture that the table names at `r`. -/
theorem gather_image {α : Type} (x : S33x3x416x416.Idx → α) (idx : IVec S36x1 32) (r : Fin 36) (ch : Fin 3)
    (p q : Fin 416) :
    Host.gather gather_S33x3x416x416_S36x1_S36x3x416x416_123_0_n_n_0_1_13416416 x idx (ix4 r ch p q)
      = x (ix4 ⟨min (idx (ix2 r 0)).toInt.toNat 32, by omega⟩ ch p q) := by
  unfold Host.gather
  congr 1
  funext a
  refine Fin.ext ?_
  match a with
  | ⟨0, _⟩ =>
    show (gather_S33x3x416x416_S36x1_S36x3x416x416_123_0_n_n_0_1_13416416).start (ix4 r ch p q) idx 0 + 0 + 0 = _
    have h : (gather_S33x3x416x416_S36x1_S36x3x416x416_123_0_n_n_0_1_13416416).siIdx (ix4 r ch p q) ⟨0, by decide⟩ = ix2 r 0 := by
      funext b; refine Fin.ext ?_
      match b with
      | ⟨0, _⟩ => rfl
      | ⟨1, _⟩ => rfl
    exact congrArg (fun i => min (idx i).toInt.toNat 32) h
  | ⟨1, _⟩ => show 0 + 0 + ch.val = ch.val; omega
  | ⟨2, _⟩ => show 0 + 0 + p.val = p.val; omega
  | ⟨3, _⟩ => show 0 + 0 + q.val = q.val; omega

/-- The gather of patch pixels: at object `n` and canvas position `(p, q)` the table names object, row and column of
    the pixel, for all three channels. -/
theorem gather_pixel {α : Type} (x : S32x3x64x64.Idx → α) (idx : IVec S32x416x416x3 32) (n : Fin 32)
    (p q : Fin 416) (ch : Fin 3) :
    Host.gather gather_S32x3x64x64_S32x416x416x3_S32x416x416x3_3_023_n_n_023_3_1311 x idx (ix4 n p q ch)
      = x (ix4 ⟨min (idx (ix4 n p q 0)).toInt.toNat 31, by omega⟩ ch
          ⟨min (idx (ix4 n p q 1)).toInt.toNat 63, by omega⟩ ⟨min (idx (ix4 n p q 2)).toInt.toNat 63, by omega⟩) := by
  unfold Host.gather
  congr 1
  have h : ∀ k : Fin 3, (gather_S32x3x64x64_S32x416x416x3_S32x416x416x3_3_023_n_n_023_3_1311).siIdx (ix4 n p q ch) k
      = ix4 n p q k := fun k => by
    funext b; refine Fin.ext ?_
    match b with
    | ⟨0, _⟩ => rfl
    | ⟨1, _⟩ => rfl
    | ⟨2, _⟩ => rfl
    | ⟨3, _⟩ => rfl
  funext a
  refine Fin.ext ?_
  match a with
  | ⟨0, _⟩ =>
    show (gather_S32x3x64x64_S32x416x416x3_S32x416x416x3_3_023_n_n_023_3_1311).start (ix4 n p q ch) idx 0 + 0 + 0 = _
    exact congrArg (fun i => min (idx i).toInt.toNat 31) (h 0)
  | ⟨1, _⟩ => show 0 + 0 + ch.val = ch.val; omega
  | ⟨2, _⟩ =>
    show (gather_S32x3x64x64_S32x416x416x3_S32x416x416x3_3_023_n_n_023_3_1311).start (ix4 n p q ch) idx 2 + 0 + 0 = _
    exact congrArg (fun i => min (idx i).toInt.toNat 63) (h 1)
  | ⟨3, _⟩ =>
    show (gather_S32x3x64x64_S32x416x416x3_S32x416x416x3_3_023_n_n_023_3_1311).start (ix4 n p q ch) idx 3 + 0 + 0 = _
    exact congrArg (fun i => min (idx i).toInt.toNat 63) (h 2)
end Cert.ReferenceIdeal.Hand

end
-- ==== Proof.Eq.Object.lean ====
/- One object's contribution to one canvas pixel, in the two programs.

The kernel sums the patch's pixels against two tents.  The reference reads the four pixels beside the sampled place, at
indices cut to the patch, and drops those that lie outside it.  The two agree wherever the places are one real number,
and both are zero where a place is infinite. -/
module

public import Idealize.ShloMosaic.Lib.IdealHost
public import proofs.«01_k».proof.Proof.Eq.Sample

@[expose] public section

noncomputable section

namespace Cert.Compose

open Idealize.ShloMosaic

/-- The index word of a whole place: cut to 0…63 and made an integer. -/
def word (X : EReal) : BitVec 32 :=
  FloatOps.fptosi (F := Ideal) (φ := .f32) 32
    (min (FloatOps.sitofp (F := Ideal) .f32 63#32) (max (FloatOps.sitofp (F := Ideal) .f32 0#32) X) : EReal)

/-- The patch index that a word names, negative words counted from the end. -/
def cell (X : EReal) : Fin 64 :=
  ⟨min (Scalar.select (IntOp.cmpi CmpIPredicate.slt (word X) 0#32) (IntOp.addi (word X) 64#32) (word X)).toInt.toNat 63, by omega⟩

/-- One where both whole places lie in the patch, zero elsewhere. -/
def mask (X Y : EReal) : EReal :=
  FloatOps.uitofp (F := Ideal) FTy.f32 (IntOp.andi (IntOp.andi (IntOp.andi (BitVec.ofBool (decide (0 ≤ X)))
    (BitVec.ofBool (decide (X ≤ Ideal.ofBits FTy.f32 0x427C0000#32)))) (BitVec.ofBool (decide (0 ≤ Y))))
    (BitVec.ofBool (decide (Y ≤ Ideal.ofBits FTy.f32 0x427C0000#32))))

/-- A word below 64 names the pixel of its number. -/
theorem cell_word : ∀ n : Fin 64, min (Scalar.select (IntOp.cmpi CmpIPredicate.slt (BitVec.ofInt 32 (n.val : ℤ)) 0#32)
    (IntOp.addi (BitVec.ofInt 32 (n.val : ℤ)) 64#32) (BitVec.ofInt 32 (n.val : ℤ))).toInt.toNat 63 = n.val := by decide

/-- The index word of a whole place in the patch is that place. -/
theorem word_eq {i : ℤ} (h : 0 ≤ i ∧ i ≤ 63) : word ((i : ℝ) : EReal) = BitVec.ofInt 32 i := by
  have h0 : (0 : ℝ) ≤ i := by exact_mod_cast h.1
  have h1 : (i : ℝ) ≤ 63 := by exact_mod_cast h.2
  have e : (min (FloatOps.sitofp (F := Ideal) .f32 63#32) (max (FloatOps.sitofp (F := Ideal) .f32 0#32) ((i : ℝ) : EReal)) : EReal)
      = ((i : ℝ) : EReal) := by
    have a : (FloatOps.sitofp (F := Ideal) .f32 63#32 : EReal) = ((63 : ℝ) : EReal) := by
      show (((63#32 : BitVec 32).toInt : ℝ) : EReal) = _
      rw [show (63#32 : BitVec 32).toInt = 63 by decide]; norm_num
    have b : (FloatOps.sitofp (F := Ideal) .f32 0#32 : EReal) = ((0 : ℝ) : EReal) := by
      show (((0#32 : BitVec 32).toInt : ℝ) : EReal) = _
      rw [show (0#32 : BitVec 32).toInt = 0 by decide]; norm_num
    rw [a, b, ← coe_max, ← coe_min, max_eq_right h0, min_eq_right h1]
  unfold word
  rw [e]
  show Ideal.fptosi 32 ((i : ℝ) : EReal) = _
  unfold Ideal.fptosi
  rw [Ideal.toIntClamped_coe, if_pos h0, Int.floor_intCast]
  congr 1
  have : (2 : ℕ) ^ (32 - 1) = 2147483648 := by norm_num
  rw [this]
  omega

/-- The patch index of a whole place in the patch is that place. -/
theorem cell_eq {i : ℤ} (h : 0 ≤ i ∧ i ≤ 63) : cell ((i : ℝ) : EReal) = ⟨i.toNat, by omega⟩ := by
  apply Fin.ext
  show min (Scalar.select (IntOp.cmpi CmpIPredicate.slt (word ((i : ℝ) : EReal)) 0#32)
    (IntOp.addi (word ((i : ℝ) : EReal)) 64#32) (word ((i : ℝ) : EReal))).toInt.toNat 63 = i.toNat
  rw [word_eq h]
  have hc := cell_word ⟨i.toNat, by omega⟩
  rwa [show (((⟨i.toNat, by omega⟩ : Fin 64).val : ℕ) : ℤ) = i from Int.toNat_of_nonneg h.1] at hc

/-- The mask is one exactly where both places lie in the patch. -/
theorem mask_eq (X Y : EReal) : mask X Y = if (0 ≤ X ∧ X ≤ ((63 : ℝ) : EReal)) ∧ (0 ≤ Y ∧ Y ≤ ((63 : ℝ) : EReal)) then 1 else 0 := by
  unfold mask
  rw [bits_sixtythree]
  have one : (FloatOps.uitofp (F := Ideal) FTy.f32 1#1 : EReal) = 1 := by
    show (((1#1 : BitVec 1).toNat : ℝ) : EReal) = 1
    rw [show (1#1 : BitVec 1).toNat = 1 by decide]; norm_num
  have zero : (FloatOps.uitofp (F := Ideal) FTy.f32 0#1 : EReal) = 0 := by
    show (((0#1 : BitVec 1).toNat : ℝ) : EReal) = 0
    rw [show (0#1 : BitVec 1).toNat = 0 by decide]; norm_num
  by_cases a : 0 ≤ X <;> by_cases b : X ≤ ((63 : ℝ) : EReal) <;> by_cases c : 0 ≤ Y <;> by_cases d : Y ≤ ((63 : ℝ) : EReal) <;>
    simp only [a, b, c, d, decide_true, decide_false, and_true, true_and, and_false, false_and, if_true, if_false] <;>
    first | exact one | exact zero

/-- An infinite column lies outside the patch. -/
theorem mask_inf_left {X : EReal} (h : Inf X) (Y : EReal) : mask X Y = 0 := by
  rw [mask_eq, if_neg]
  rintro ⟨⟨a, b⟩, -⟩
  rcases h with rfl | rfl
  · exact absurd b (not_le.mpr (EReal.coe_lt_top _))
  · exact absurd a (not_le.mpr (EReal.bot_lt_coe 0))

/-- An infinite row lies outside the patch. -/
theorem mask_inf_right {Y : EReal} (h : Inf Y) (X : EReal) : mask X Y = 0 := by
  rw [mask_eq, if_neg]
  rintro ⟨-, a, b⟩
  rcases h with rfl | rfl
  · exact absurd b (not_le.mpr (EReal.coe_lt_top _))
  · exact absurd a (not_le.mpr (EReal.bot_lt_coe 0))

/-- The pixel that the reference reads at whole places, where they lie in the patch. -/
def tap (P : Fin 64 → Fin 64 → EReal) (Y X : EReal) : EReal := P (cell Y) (cell X) * mask X Y

/-- A pixel read at whole places: the patch's, continued by zeros. -/
theorem tap_real (f : Fin 64 → Fin 64 → ℝ) (i j : ℤ) :
    tap (fun k l => (f k l : EReal)) ((i : ℝ) : EReal) ((j : ℝ) : EReal) = (ext2 f i j : EReal) := by
  have hv : ((0 ≤ ((j : ℝ) : EReal) ∧ ((j : ℝ) : EReal) ≤ ((63 : ℝ) : EReal)) ∧ (0 ≤ ((i : ℝ) : EReal) ∧ ((i : ℝ) : EReal) ≤ ((63 : ℝ) : EReal)))
      ↔ ((0 ≤ j ∧ j ≤ 63) ∧ (0 ≤ i ∧ i ≤ 63)) := by
    rw [← EReal.coe_zero, EReal.coe_le_coe_iff, EReal.coe_le_coe_iff, EReal.coe_le_coe_iff, EReal.coe_le_coe_iff]
    norm_cast
  unfold tap ext2
  rw [mask_eq]
  by_cases h : (0 ≤ j ∧ j ≤ 63) ∧ (0 ≤ i ∧ i ≤ 63)
  · rw [if_pos (hv.mpr h), dif_pos h, mul_one, cell_eq h.1, cell_eq h.2]
  · rw [if_neg (fun g => h (hv.mp g)), dif_neg h, mul_zero, EReal.coe_zero]

/-- A pixel read at an infinite row is zero. -/
theorem tap_inf_row (P : Fin 64 → Fin 64 → EReal) {Y : EReal} (h : Inf Y) (X : EReal) : tap P Y X = 0 := by
  unfold tap; rw [mask_inf_right h, mul_zero]

/-- A pixel read at an infinite column is zero. -/
theorem tap_inf_col (P : Fin 64 → Fin 64 → EReal) (Y : EReal) {X : EReal} (h : Inf X) : tap P Y X = 0 := by
  unfold tap; rw [mask_inf_left h, mul_zero]

/-- The reference's sample of a patch at the place `(sy, sx)`: four pixels, each with its weight. -/
def fourTaps (P : Fin 64 → Fin 64 → EReal) (sy sx : EReal) : EReal :=
  tap P (Ideal.liftRound Int.floor sy) (Ideal.liftRound Int.floor sx)
      * ((1 - (sx - Ideal.liftRound Int.floor sx)) * (1 - (sy - Ideal.liftRound Int.floor sy)))
    + tap P (Ideal.liftRound Int.floor sy) (Ideal.liftRound Int.floor sx + 1)
      * ((sx - Ideal.liftRound Int.floor sx) * (1 - (sy - Ideal.liftRound Int.floor sy)))
    + tap P (Ideal.liftRound Int.floor sy + 1) (Ideal.liftRound Int.floor sx)
      * ((1 - (sx - Ideal.liftRound Int.floor sx)) * (sy - Ideal.liftRound Int.floor sy))
    + tap P (Ideal.liftRound Int.floor sy + 1) (Ideal.liftRound Int.floor sx + 1)
      * ((sx - Ideal.liftRound Int.floor sx) * (sy - Ideal.liftRound Int.floor sy))

/-- The floor of an infinity is infinite. -/
theorem floor_inf {x : EReal} (h : Inf x) : Inf (Ideal.liftRound Int.floor x) := by
  rcases h with rfl | rfl
  · exact Or.inl rfl
  · exact Or.inr rfl

/-- An infinity plus one is infinite. -/
theorem inf_add_one {x : EReal} (h : Inf x) : Inf (x + 1) := h.add_real 1

/-- At an infinite vertical place the sample is zero. -/
theorem fourTaps_inf_row (P : Fin 64 → Fin 64 → EReal) {sy : EReal} (h : Inf sy) (sx : EReal) : fourTaps P sy sx = 0 := by
  unfold fourTaps
  rw [tap_inf_row P (floor_inf h), tap_inf_row P (floor_inf h), tap_inf_row P (inf_add_one (floor_inf h)),
    tap_inf_row P (inf_add_one (floor_inf h))]
  simp

/-- At an infinite horizontal place the sample is zero. -/
theorem fourTaps_inf_col (P : Fin 64 → Fin 64 → EReal) (sy : EReal) {sx : EReal} (h : Inf sx) : fourTaps P sy sx = 0 := by
  unfold fourTaps
  rw [tap_inf_col P _ (floor_inf h), tap_inf_col P _ (floor_inf h), tap_inf_col P _ (inf_add_one (floor_inf h)),
    tap_inf_col P _ (inf_add_one (floor_inf h))]
  simp

/-- At real places the sample is the bilinear one. -/
theorem fourTaps_real (f : Fin 64 → Fin 64 → ℝ) (ry rx : ℝ) :
    fourTaps (fun k l => (f k l : EReal)) (ry : EReal) (rx : EReal)
      = ((∑ j : Fin 64, max (1 - |(j.val : ℝ) - rx|) 0 * (∑ k : Fin 64, max (1 - |(k.val : ℝ) - ry|) 0 * f k j) : ℝ) : EReal) := by
  have e : ∀ r : ℝ, Ideal.liftRound Int.floor (r : EReal) = (((⌊r⌋ : ℤ) : ℝ) : EReal) := fun r => rfl
  have e1 : ∀ i : ℤ, (((i : ℝ)) : EReal) + 1 = (((i + 1 : ℤ) : ℝ) : EReal) := fun i => by push_cast; rfl
  unfold fourTaps
  rw [e, e, e1, e1, tap_real, tap_real, tap_real, tap_real, tent_sum_two]
  simp only [← EReal.coe_one, ← EReal.coe_sub, ← EReal.coe_mul, ← EReal.coe_add]

/-- ONE OBJECT'S CONTRIBUTION: the kernel's doubly weighted sum is the reference's sample times the object's share. -/
theorem object_agree (f : Fin 64 → Fin 64 → ℝ) {w : ℝ} (hw : 0 ≤ w) {Ky Ry Kx Rx : EReal}
    (hy : (∃ r : ℝ, Ky = r ∧ Ry = r) ∨ (Inf Ky ∧ Inf Ry)) (hx : (∃ r : ℝ, Kx = r ∧ Rx = r) ∨ (Inf Kx ∧ Inf Rx)) :
    ∑ j : Fin 64, (∑ k : Fin 64, tent ((1 : ℝ) : EReal) Ky k.val * (f k j : EReal)) * tent w Kx j.val
      = fourTaps (fun k l => (f k l : EReal)) Ry Rx * (w : EReal) := by
  rcases hx with ⟨rx, rfl, rfl⟩ | ⟨hK, hR⟩
  · rcases hy with ⟨ry, rfl, rfl⟩ | ⟨hK, hR⟩
    · rw [fourTaps_real]
      simp only [tent_real hw, tent_real zero_le_one, ← EReal.coe_mul, ← coe_sum]
      congr 1
      rw [Finset.sum_mul]
      refine Finset.sum_congr rfl fun j _ => ?_
      simp only [one_mul]; ring
    · rw [fourTaps_inf_row _ hR, zero_mul]
      refine Finset.sum_eq_zero fun j _ => ?_
      rw [Finset.sum_eq_zero fun k _ => by rw [tent_inf zero_le_one hK, zero_mul], zero_mul]
  · rw [fourTaps_inf_col _ _ hR, zero_mul]
    refine Finset.sum_eq_zero fun j _ => ?_
    rw [tent_inf hw hK, mul_zero]
-- ==== Proof.Ref.Parts.lean ====
/- # The reference's decoded pixels and sampled places, at an index -/
module

public import Idealize.ShloMosaic.Lib.Tactic.CleanTypes
public import proofs.«01_k».proof.Proof.Ref.Gather
public import proofs.«01_k».proof.Proof.Eq.Object
public import proofs.«01_k».proof.Proof.Eq.Share
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic
open Cert.Compose

variable (V0 : Valuation τ sig (Elt Ideal))

/-- The placements, as the program is given them. -/
def placements : Vec Ideal S4x8x4 .f32 := V0 (Proc.devRef .tc main_arg0)

/-- The depths, as the program is given them. -/
def depths : Vec Ideal S4x8x1 .f32 := V0 (Proc.devRef .tc main_arg3)

/-- The decoded patches. -/
def patches : Vec Ideal S32x3x64x64 .f32 := res_main_v18 V0

/-- The objects' centres. -/
def centres : Vec Ideal S32x2 .f32 := res_main_v23 V0

/-- The objects' extents. -/
def extents : Vec Ideal S32x2 .f32 := res_main_v26 V0

/-- The canvas pixels' coordinates. -/
def coords : Vec Ideal S416 .f32 := res_main_v27 V0

/-- The places sampled, along the horizontal axis. -/
def placesX : Vec Ideal S32x416x416 .f32 := res_main_v66 V0

/-- The places sampled, along the vertical axis. -/
def placesY : Vec Ideal S32x416x416 .f32 := res_main_v76 V0

/-- The samples of the patches. -/
def samples : Vec Ideal S32x416x416x3 .f32 := res_main_v269 V0

/-- The depths of the batches' entries, the background's first. -/
def entries : Vec Ideal S4x9x1 .f32 := res_main_v290 V0

/-- The exponentials of the entries' depths. -/
def powers : Vec Ideal S4x9x1 .f32 := res_main_v297 V0

/-- Pixel `(k, l)` of channel `ch` of object `n`'s decoded patch. -/
theorem pixel_at (n : Fin 32) (ch : Fin 3) (k l : Fin 64) :
    patches V0 (ix4 n ch k l)
      = Ideal.div 1 (1 + Ideal.exp (-logit (fun i => (V0 (Proc.devRef .tc main_arg2) : Vec Ideal S4x8x64 .f32) (ix3 (⟨n.val / 8, by omega⟩ : Fin 4) (⟨n.val % 8, by omega⟩ : Fin 8) i))
          (fun i j => (V0 (Proc.devRef .tc main_arg4) : Vec Ideal S64x128 .f32) (ix2 i j)) (fun j => (V0 (Proc.devRef .tc main_arg5) : Vec Ideal S128 .f32) (ix1 j))
          (fun j => (V0 (Proc.devRef .tc main_arg6) : Vec Ideal S128x12288 .f32) (ix2 j (⟨ch.val * 4096 + k.val * 64 + l.val, by omega⟩ : Fin 12288)))
          ((V0 (Proc.devRef .tc main_arg7) : Vec Ideal S12288 .f32) (ix1 (⟨ch.val * 4096 + k.val * 64 + l.val, by omega⟩ : Fin 12288))))) := by
  unfold patches res_main_v18
  clean_types
  pointwise
  rfl

/-- An object's centre. -/
theorem centre_at (n : Fin 32) (k : Fin 2) : centres V0 (ix2 n k)
    = placements V0 (ix3 (⟨n.val / 8, by omega⟩ : Fin 4) (⟨n.val % 8, by omega⟩ : Fin 8) (⟨k.val, by omega⟩ : Fin 4)) * Ideal.ofBits .f32 0x40000000#32 - 1 := by
  unfold centres res_main_v23 res_main_v0
  clean_types
  pointwise
  rfl

/-- An object's extent. -/
theorem extent_at (n : Fin 32) (k : Fin 2) : extents V0 (ix2 n k)
    = placements V0 (ix3 (⟨n.val / 8, by omega⟩ : Fin 4) (⟨n.val % 8, by omega⟩ : Fin 8) (⟨2 + k.val, by omega⟩ : Fin 4)) + Ideal.ofBits .f32 0x3D4CCCCD#32 := by
  unfold extents res_main_v26 res_main_v0
  clean_types
  pointwise
  rfl

/-- A canvas pixel's coordinate: 416 evenly spaced numbers from −1 to 1. -/
theorem coord_at (p : Fin 416) : coords V0 (ix1 p) = ((coord p.val : ℝ) : EReal) := by
  unfold coords res_main_v27 res_main_call1_v0 res_main_call1_v1 res_main_call1_v6
  clean_types
  pointwise
  show (if h : p.val < 415 then Ideal.ofBits FTy.f32 0xBF800000#32 * (1 - Ideal.div (((BitVec.ofNat 32 p.val).toInt : ℝ) : EReal) (Ideal.ofBits FTy.f32 0x43CF8000#32))
      + Ideal.ofBits FTy.f32 0x3F800000#32 * Ideal.div (((BitVec.ofNat 32 p.val).toInt : ℝ) : EReal) (Ideal.ofBits FTy.f32 0x43CF8000#32)
    else Ideal.ofBits FTy.f32 0x3F800000#32) = _
  have hi : (((BitVec.ofNat 32 p.val).toInt : ℤ) : ℝ) = (p.val : ℝ) := by
    have h : (BitVec.ofNat 32 p.val).toInt = (p.val : ℤ) := by
      have h : ∀ q : Fin 416, (BitVec.ofNat 32 q.val).toInt = (q.val : ℤ) := by decide
      exact h p
    rw [h]; norm_num
  rw [hi, bits_neg_one, bits_steps, Ideal.ofBits_one_f32, div_real _ (by norm_num)]
  split
  · rw [← EReal.coe_one, ← EReal.coe_sub, ← EReal.coe_mul, ← EReal.coe_mul, ← EReal.coe_add]
    congr 1; unfold coord; ring
  · next h =>
    have hp : p.val = 415 := by omega
    rw [hp, ← EReal.coe_one]; congr 1; unfold coord; norm_num

/-- The reference's place along one axis. -/
def placeR (c s : EReal) (p : ℕ) : EReal :=
  Ideal.div ((Ideal.div (((coord p : ℝ) : EReal) - c) s + ((1 : ℝ) : EReal)) * ((64 : ℝ) : EReal)) ((2 : ℝ) : EReal) - ((1 / 2 : ℝ) : EReal)

/-- The place sampled along the horizontal axis. -/
theorem placeX_at (n : Fin 32) (y x : Fin 416) : placesX V0 (ix3 n y x)
    = placeR (centres V0 (ix2 n 0)) (extents V0 (ix2 n 0)) x.val := by
  unfold placesX res_main_v66 res_main_v56
  clean_types
  pointwise
  rw [bits_sixtyfour, bits_two, bits_half]
  unfold placeR
  rw [← coord_at V0 x]; rfl

/-- The place sampled along the vertical axis. -/
theorem placeY_at (n : Fin 32) (y x : Fin 416) : placesY V0 (ix3 n y x)
    = placeR (centres V0 (ix2 n 1)) (extents V0 (ix2 n 1)) y.val := by
  unfold placesY res_main_v76 res_main_v56
  clean_types
  pointwise
  rw [bits_sixtyfour, bits_two, bits_half]
  unfold placeR
  rw [← coord_at V0 y]; rfl

end Cert.ReferenceIdeal.Hand

end
-- ==== Proof.Ref.Taps.lean ====
/- # The reference's sample of an object's patch, at an index -/
module

public import Idealize.ShloMosaic.Lib.Tactic.CleanTypes
public import proofs.«01_k».proof.Proof.Ref.Gather
public import proofs.«01_k».proof.Proof.Eq.Object
public import proofs.«01_k».proof.Proof.Eq.Share
public import proofs.«01_k».proof.Proof.Gen.ReferenceIdeal.Run
public import Idealize.ShloMosaic.Lib.Pointwise
public import Idealize.ShloMosaic.Lib.Pipeline.ValueKit
public import proofs.«01_k».proof.Proof.Ref.Parts

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic
open Cert.Compose

variable (V0 : Valuation τ sig (Elt Ideal))

/-- The column to the left of the place. -/
theorem v77_at (n : Fin 32) (y x : Fin 416) : (res_main_v77 V0 : Vec Ideal S32x416x416 .f32) (ix3 n y x) = Ideal.liftRound Int.floor (placesX V0 (ix3 n y x)) := by
  unfold res_main_v77
  clean_types
  pointwise
  rfl

/-- The row above the place. -/
theorem v80_at (n : Fin 32) (y x : Fin 416) : (res_main_v80 V0 : Vec Ideal S32x416x416 .f32) (ix3 n y x) = Ideal.liftRound Int.floor (placesY V0 (ix3 n y x)) := by
  unfold res_main_v80
  clean_types
  pointwise
  rfl

/-- The column to the right of the place. -/
theorem v79_at (n : Fin 32) (y x : Fin 416) : (res_main_v79 V0 : Vec Ideal S32x416x416 .f32) (ix3 n y x) = Ideal.liftRound Int.floor (placesX V0 (ix3 n y x)) + 1 := by
  unfold res_main_v79
  clean_types
  pointwise
  rw [v77_at V0]

/-- The row below the place. -/
theorem v82_at (n : Fin 32) (y x : Fin 416) : (res_main_v82 V0 : Vec Ideal S32x416x416 .f32) (ix3 n y x) = Ideal.liftRound Int.floor (placesY V0 (ix3 n y x)) + 1 := by
  unfold res_main_v82
  clean_types
  pointwise
  rw [v80_at]

/-- The weight of the right column. -/
theorem v83_at (n : Fin 32) (y x : Fin 416) : (res_main_v83 V0 : Vec Ideal S32x416x416 .f32) (ix3 n y x) = placesX V0 (ix3 n y x) - Ideal.liftRound Int.floor (placesX V0 (ix3 n y x)) := by
  unfold res_main_v83
  clean_types
  pointwise
  rw [v77_at V0]
  rfl

/-- The weight of the left column. -/
theorem v85_at (n : Fin 32) (y x : Fin 416) : (res_main_v85 V0 : Vec Ideal S32x416x416 .f32) (ix3 n y x) = 1 - (placesX V0 (ix3 n y x) - Ideal.liftRound Int.floor (placesX V0 (ix3 n y x))) := by
  unfold res_main_v85
  clean_types
  pointwise
  rw [v83_at]

/-- The weight of the row below. -/
theorem v86_at (n : Fin 32) (y x : Fin 416) : (res_main_v86 V0 : Vec Ideal S32x416x416 .f32) (ix3 n y x) = placesY V0 (ix3 n y x) - Ideal.liftRound Int.floor (placesY V0 (ix3 n y x)) := by
  unfold res_main_v86
  clean_types
  pointwise
  rw [v80_at]
  rfl

/-- The weight of the row above. -/
theorem v88_at (n : Fin 32) (y x : Fin 416) : (res_main_v88 V0 : Vec Ideal S32x416x416 .f32) (ix3 n y x) = 1 - (placesY V0 (ix3 n y x) - Ideal.liftRound Int.floor (placesY V0 (ix3 n y x))) := by
  unfold res_main_v88
  clean_types
  pointwise
  rw [v86_at]

/-- An index word of the left column. -/
theorem v103_at (n : Fin 32) (y x : Fin 416) : (res_main_v103 V0 : Vec Ideal S32x416x416 .i32) (ix3 n y x) = word ((res_main_v77 V0 : Vec Ideal S32x416x416 .f32) (ix3 n y x)) := by
  unfold res_main_v103
  clean_types
  pointwise
  rfl

/-- An index word of the left column. -/
theorem v183_at (n : Fin 32) (y x : Fin 416) : (res_main_v183 V0 : Vec Ideal S32x416x416 .i32) (ix3 n y x) = word ((res_main_v77 V0 : Vec Ideal S32x416x416 .f32) (ix3 n y x)) := by
  unfold res_main_v183
  clean_types
  pointwise
  rfl

/-- An index word of the right column. -/
theorem v143_at (n : Fin 32) (y x : Fin 416) : (res_main_v143 V0 : Vec Ideal S32x416x416 .i32) (ix3 n y x) = word ((res_main_v79 V0 : Vec Ideal S32x416x416 .f32) (ix3 n y x)) := by
  unfold res_main_v143
  clean_types
  pointwise
  rfl

/-- An index word of the right column. -/
theorem v223_at (n : Fin 32) (y x : Fin 416) : (res_main_v223 V0 : Vec Ideal S32x416x416 .i32) (ix3 n y x) = word ((res_main_v79 V0 : Vec Ideal S32x416x416 .f32) (ix3 n y x)) := by
  unfold res_main_v223
  clean_types
  pointwise
  rfl

/-- An index word of the row above. -/
theorem v105_at (n : Fin 32) (y x : Fin 416) : (res_main_v105 V0 : Vec Ideal S32x416x416 .i32) (ix3 n y x) = word ((res_main_v80 V0 : Vec Ideal S32x416x416 .f32) (ix3 n y x)) := by
  unfold res_main_v105
  clean_types
  pointwise
  rfl

/-- An index word of the row above. -/
theorem v145_at (n : Fin 32) (y x : Fin 416) : (res_main_v145 V0 : Vec Ideal S32x416x416 .i32) (ix3 n y x) = word ((res_main_v80 V0 : Vec Ideal S32x416x416 .f32) (ix3 n y x)) := by
  unfold res_main_v145
  clean_types
  pointwise
  rfl

/-- An index word of the row below. -/
theorem v185_at (n : Fin 32) (y x : Fin 416) : (res_main_v185 V0 : Vec Ideal S32x416x416 .i32) (ix3 n y x) = word ((res_main_v82 V0 : Vec Ideal S32x416x416 .f32) (ix3 n y x)) := by
  unfold res_main_v185
  clean_types
  pointwise
  rfl

/-- An index word of the row below. -/
theorem v225_at (n : Fin 32) (y x : Fin 416) : (res_main_v225 V0 : Vec Ideal S32x416x416 .i32) (ix3 n y x) = word ((res_main_v82 V0 : Vec Ideal S32x416x416 .f32) (ix3 n y x)) := by
  unfold res_main_v225
  clean_types
  pointwise
  rfl

/-- The word that names the object. -/
theorem v90_at (n : Fin 32) : (res_main_v90 V0 : Vec Ideal S32x1x1 .i32) (ix3 n 0 0) = BitVec.ofNat 32 n.val := by
  unfold res_main_v90
  clean_types
  pointwise

/-- A word below 32 names the object of its number. -/
theorem object_word : ∀ n : Fin 32, min (Scalar.select (IntOp.cmpi CmpIPredicate.slt (BitVec.ofNat 32 n.val) 0#32)
    (IntOp.addi (BitVec.ofNat 32 n.val) 32#32) (BitVec.ofNat 32 n.val)).toInt.toNat 31 = n.val := by decide

/-- The pixel read for an object, a row word and a column word. -/
theorem read_pixel (P : Vec Ideal S32x3x64x64 .f32) (n : Fin 32) (ch : Fin 3) {w wy wx : BitVec 32} {Y X : EReal}
    (hn : w = BitVec.ofNat 32 n.val) (hy : wy = word Y) (hx : wx = word X) (h0 h1 h2) :
    P (ix4 (⟨min (Scalar.select (IntOp.cmpi CmpIPredicate.slt w 0#32) (IntOp.addi w 32#32) w).toInt.toNat 31, h0⟩ : Fin 32) ch
        (⟨min (Scalar.select (IntOp.cmpi CmpIPredicate.slt wy 0#32) (IntOp.addi wy 64#32) wy).toInt.toNat 63, h1⟩ : Fin 64)
        (⟨min (Scalar.select (IntOp.cmpi CmpIPredicate.slt wx 0#32) (IntOp.addi wx 64#32) wx).toInt.toNat 63, h2⟩ : Fin 64))
      = P (ix4 n ch (cell Y) (cell X)) := by
  subst hn hy hx
  exact congrArg (fun k => P (ix4 k ch (cell Y) (cell X))) (Fin.ext (object_word n))

/-- The two upper taps. -/
theorem v259_at (n : Fin 32) (y x : Fin 416) (ch : Fin 3) : (res_main_v259 V0 : Vec Ideal S32x416x416x3 .f32) (ix4 n y x ch)
    = tap (fun k l => patches V0 (ix4 n ch k l)) (Ideal.liftRound Int.floor (placesY V0 (ix3 n y x))) (Ideal.liftRound Int.floor (placesX V0 (ix3 n y x))) * ((1 - (placesX V0 (ix3 n y x) - Ideal.liftRound Int.floor (placesX V0 (ix3 n y x)))) * (1 - (placesY V0 (ix3 n y x) - Ideal.liftRound Int.floor (placesY V0 (ix3 n y x)))))
      + tap (fun k l => patches V0 (ix4 n ch k l)) (Ideal.liftRound Int.floor (placesY V0 (ix3 n y x))) (Ideal.liftRound Int.floor (placesX V0 (ix3 n y x)) + 1) * ((placesX V0 (ix3 n y x) - Ideal.liftRound Int.floor (placesX V0 (ix3 n y x))) * (1 - (placesY V0 (ix3 n y x) - Ideal.liftRound Int.floor (placesY V0 (ix3 n y x))))) := by
  unfold res_main_v259
  clean_types
  pointwise
  simp only [gather_pixel]
  pointwise
  rw [read_pixel (res_main_v18 V0) n ch (v90_at V0 n) (v105_at V0 n y x) (v103_at V0 n y x), read_pixel (res_main_v18 V0) n ch (v90_at V0 n) (v145_at V0 n y x) (v143_at V0 n y x),
    v77_at, v79_at, v80_at, v83_at, v85_at, v88_at]
  rfl

/-- THE REFERENCE'S SAMPLE of object `n`'s patch at a canvas pixel. -/
theorem samples_at (n : Fin 32) (y x : Fin 416) (ch : Fin 3) : samples V0 (ix4 n y x ch)
    = fourTaps (fun k l => patches V0 (ix4 n ch k l)) (placesY V0 (ix3 n y x)) (placesX V0 (ix3 n y x)) := by
  unfold samples res_main_v269
  clean_types
  pointwise
  simp only [gather_pixel]
  pointwise
  rw [v259_at, read_pixel (res_main_v18 V0) n ch (v90_at V0 n) (v185_at V0 n y x) (v183_at V0 n y x), read_pixel (res_main_v18 V0) n ch (v90_at V0 n) (v225_at V0 n y x) (v223_at V0 n y x),
    v77_at, v79_at, v82_at, v83_at, v85_at, v86_at]
  rfl

end Cert.ReferenceIdeal.Hand

end
-- ==== Proof.Ref.Table.lean ====
/- # The reference's table of entries -/
module

public import Idealize.ShloMosaic.Lib.Tactic.CleanTypes
public import proofs.«01_k».proof.Proof.Ref.Gather
public import proofs.«01_k».proof.Proof.Eq.Object
public import proofs.«01_k».proof.Proof.Eq.Share
public import proofs.«01_k».proof.Proof.Gen.ReferenceIdeal.Run
public import Idealize.ShloMosaic.Lib.Pointwise
public import Idealize.ShloMosaic.Lib.Pipeline.ValueKit
public import proofs.«01_k».proof.Proof.Ref.Parts

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic
open Cert.Compose

variable (V0 : Valuation τ sig (Elt Ideal))

/-- The reference's table of 36 rows: for each batch the background, row 0, and then the batch's eight objects. -/
def table : IVec S36x1 32 := (broadcastInDim S36x1 ![0] bcast_S36_S36x1_0 (select (cmpi .slt (res_main_c V0) (broadcastInDim S36 ![] bcast_S_S36 (constantI S_ 32 0#32))) (addi (res_main_c V0) (broadcastInDim S36 ![] bcast_S_S36 (constantI S_ 32 33#32))) (res_main_c V0)))

/-- The row of a batch's entry: the background's, or one past the object's number. -/
def row (b : Fin 4) (k : Fin 9) : Fin 33 := Fin.cases 0 (fun a => ⟨8 * b.val + a.val + 1, by omega⟩) k

/-- A row of the table of indices, as a word. -/
theorem table_word (r : Fin 36) : table V0 (ix2 r (0 : Fin 1))
    = Scalar.select (IntOp.cmpi CmpIPredicate.slt (lit0 r) 0#32) (IntOp.addi (lit0 r) 33#32) (lit0 r) := by
  have h : (res_main_c V0 : IVec S36 32) (ix1 r) = lit0 r := congrArg lit0 (Fin.ext (Shape.rowMajor_val_one (d := ![36]) (ix1 r)))
  rw [← h]
  unfold table
  clean_types
  pointwise

/-- The table's literal entries. -/
theorem lit_row : ∀ (b : Fin 4) (k : Fin 9), lit0 ⟨b.val * 9 + k.val, by omega⟩ = BitVec.ofNat 32 (row b k).val := by
  intro b k
  fin_cases b <;> fin_cases k <;> rfl

/-- A word below 33 names the entry of its number. -/
theorem entry_word : ∀ n : Fin 33, min (Scalar.select (IntOp.cmpi CmpIPredicate.slt (BitVec.ofNat 32 n.val) 0#32)
    (IntOp.addi (BitVec.ofNat 32 n.val) 33#32) (BitVec.ofNat 32 n.val)).toInt.toNat 32 = n.val := by decide

/-- The index that the table names for entry `k` of batch `b`. -/
theorem table_row (b : Fin 4) (k : Fin 9) :
    min (table V0 (ix2 (⟨b.val * 9 + k.val, by omega⟩ : Fin 36) (0 : Fin 1))).toInt.toNat 32 = (row b k).val := by
  rw [table_word, lit_row]
  exact entry_word (row b k)

end Cert.ReferenceIdeal.Hand

end
-- ==== Proof.Ref.Entries.lean ====
/- # The depths of the batches' entries and their exponentials, at an index -/
module

public import Idealize.ShloMosaic.Lib.Tactic.CleanTypes
public import proofs.«01_k».proof.Proof.Ref.Gather
public import proofs.«01_k».proof.Proof.Eq.Object
public import proofs.«01_k».proof.Proof.Eq.Share
public import proofs.«01_k».proof.Proof.Gen.ReferenceIdeal.Run
public import Idealize.ShloMosaic.Lib.Pointwise
public import Idealize.ShloMosaic.Lib.Pipeline.ValueKit
public import proofs.«01_k».proof.Proof.Ref.Parts
public import proofs.«01_k».proof.Proof.Ref.Table

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic
open Cert.Compose

variable (V0 : Valuation τ sig (Elt Ideal))

/-- The 33 depths: the background's, then the objects'. -/
def depths33 : Vec Ideal S33x1 .f32 := (concatenate S33x1 0 [⟨S1x1, broadcastInDim S1x1 ![] bcast_S_S1x1 (constant (F := Ideal) S_ FTy.f32 0xC47A0000#32)⟩, ⟨S32x1, shapeCast S32x1 (V0 (Proc.devRef .tc main_arg3)) shapeCasts_S4x8x1_S32x1⟩] concatenates_S1x1_S32x1_S33x1_d0 : Vec Ideal S33x1 .f32)

/-- The first depth is the background's; depth `n + 1` is object `n`'s. -/
theorem depths33_at (n : Fin 33) (u : Fin 1) : depths33 V0 (ix2 n u) = if h : n.val < 1 then Ideal.ofBits .f32 0xC47A0000#32
    else depths V0 (ix3 (⟨(n.val - 1) / 8, by omega⟩ : Fin 4) (⟨(n.val - 1) % 8, by omega⟩ : Fin 8) (0 : Fin 1)) := by
  unfold depths33
  clean_types
  pointwise
  rfl

/-- The depths of a batch's nine entries. -/
theorem v290_at (b : Fin 4) (k : Fin 9) (u : Fin 1) : entries V0 (ix3 b k u) = depths33 V0 (ix2 (row b k) 0) := by
  unfold entries res_main_v290
  clean_types
  pointwise
  rw [gather_depth]
  exact congrArg (fun n => depths33 V0 (ix2 n 0)) (Fin.ext (table_row V0 b k))

/-- Each batch's first entry is the background. -/
theorem entries_background (b : Fin 4) : entries V0 (ix3 b 0 0) = ((-1000 : ℝ) : EReal) := by
  rw [v290_at, depths33_at, dif_pos (show (row b 0).val < 1 from Nat.zero_lt_one), bits_background]

/-- The other eight entries are the batch's objects. -/
theorem entries_object (b : Fin 4) (a : Fin 8) : entries V0 (ix3 b a.succ 0) = depths V0 (ix3 b a 0) := by
  have hr : (row b a.succ).val = 8 * b.val + a.val + 1 := rfl
  rw [v290_at, depths33_at, dif_neg (by omega)]
  have e : ∀ (p p' : Fin 4) (q q' : Fin 8), p = p' → q = q' → depths V0 (ix3 p q 0) = depths V0 (ix3 p' q' 0) := by
    rintro p _ q _ rfl rfl; rfl
  exact e _ _ _ _ (Fin.ext (by show ((row b a.succ).val - 1) / 8 = b.val; omega)) (Fin.ext (by show ((row b a.succ).val - 1) % 8 = a.val; omega))

/-- The exponentials over a batch's nine entries, the largest depth taken off. -/
theorem powers_at (b : Fin 4) (k : Fin 9) : powers V0 (ix3 b k 0)
    = Ideal.exp (entries V0 (ix3 b k 0) - max ⊥ (Finset.fold max ⊥ (fun x : Fin 9 => entries V0 (ix3 b x 0)) Finset.univ)) := by
  unfold powers res_main_v297
  clean_types
  pointwise
  rw [bits_bot]
  rfl

end Cert.ReferenceIdeal.Hand

end
-- ==== Proof.Ref.Composed.lean ====
/- # The reference's weights and its result, at an index -/
module

public import Idealize.ShloMosaic.Lib.Tactic.CleanTypes
public import proofs.«01_k».proof.Proof.Ref.Gather
public import proofs.«01_k».proof.Proof.Eq.Object
public import proofs.«01_k».proof.Proof.Eq.Share
public import proofs.«01_k».proof.Proof.Gen.ReferenceIdeal.Run
public import Idealize.ShloMosaic.Lib.Pointwise
public import Idealize.ShloMosaic.Lib.Pipeline.ValueKit
public import proofs.«01_k».proof.Proof.Ref.Parts
public import proofs.«01_k».proof.Proof.Ref.Entries

@[expose] public section

set_option maxRecDepth 16384

noncomputable section

namespace Cert.ReferenceIdeal.Hand

open Cert.ReferenceIdeal Cert.ReferenceIdeal.Gen Cert.ReferenceIdeal.Value Idealize.ShloMosaic.StableHlo
open Idealize.ShloMosaic Idealize.ShloMosaic.TcCoe Idealize.ShloMosaic.Tactic
open Cert.Compose

variable (V0 : Valuation τ sig (Elt Ideal))

/-- The 33 pictures: an empty one, then the objects'. -/
def pictures33 : Vec Ideal S33x3x416x416 .f32 := (concatenate S33x3x416x416 0 [⟨S1x3x416x416, (broadcastInDim S1x3x416x416 ![] bcast_S_S1x3x416x416 (constant (F := Ideal) S_ .f32 0x00000000#32))⟩, ⟨S32x3x416x416, (transpose S32x3x416x416 [0, 3, 1, 2] (res_main_v269 V0) transposes_S32x416x416x3_S32x3x416x416_0_3_1_2)⟩] concatenates_S1x3x416x416_S32x3x416x416_S33x3x416x416_d0 : Vec Ideal S33x3x416x416 .f32)

/-- The first picture is empty; picture `n + 1` is object `n`'s. -/
theorem pictures33_at (n : Fin 33) (ch : Fin 3) (y x : Fin 416) : pictures33 V0 (ix4 n ch y x) = if h : n.val < 1 then 0
    else samples V0 (ix4 (⟨n.val - 1, by omega⟩ : Fin 32) y x ch) := by
  unfold pictures33
  clean_types
  pointwise
  rfl

/-- The pictures of the batches' entries. -/
def pictures36 : Vec Ideal S36x3x416x416 .f32 :=
  Host.gather gather_S33x3x416x416_S36x1_S36x3x416x416_123_0_n_n_0_1_13416416 (pictures33 V0) (table V0)

/-- Entry `k` of batch `b` has the picture its row in the table names. -/
theorem pictures36_at (b : Fin 4) (k : Fin 9) (ch : Fin 3) (y x : Fin 416) :
    pictures36 V0 (ix4 (⟨b.val * 9 + k.val, by omega⟩ : Fin 36) ch y x) = pictures33 V0 (ix4 (row b k) ch y x) := by
  unfold pictures36
  rw [gather_image]
  exact congrArg (fun n => pictures33 V0 (ix4 n ch y x)) (Fin.ext (table_row V0 b k))

/-- The weights of the batches' entries, one for every pixel. -/
def weights : Vec Ideal S4x9x3x416x416 .f32 :=
  broadcastInDim S4x9x3x416x416 ![0, 1, 2, 3, 4] bcast_S4x9x1x1x1_S4x9x3x416x416_0_1_2_3_4 (broadcastInDim S4x9x1x1x1 ![0, 1, 2] bcast_S4x9x1_S4x9x1x1x1_0_1_2 (Host.divf (res_main_v297 V0) (broadcastInDim S4x9x1 ![0, 1, 2] bcast_S4x1x1_S4x9x1_0_1_2 (broadcastInDim S4x1x1 ![0, 2] bcast_S4x1_S4x1x1_0_2 (Host.reduceAdd (res_main_v297 V0) (constant (F := Ideal) S_ .f32 0x00000000#32) reducesTo_S4x9x1_S4x1_d1 h_S_)))))

/-- An entry's weight: its exponential over the sum of the batch's nine. -/
theorem weights_at (b : Fin 4) (k : Fin 9) (ch : Fin 3) (y x : Fin 416) : weights V0 (ix5 b k ch y x)
    = Ideal.div (powers V0 (ix3 b k 0)) (∑ i : Fin 9, powers V0 (ix3 b i 0)) := by
  unfold weights
  clean_types
  pointwise
  rfl

/-- The pictures of the batches' entries, batch by batch. -/
def pictures : Vec Ideal S4x9x3x416x416 .f32 := shapeCast S4x9x3x416x416 (pictures36 V0) shapeCasts_S36x3x416x416_S4x9x3x416x416

/-- The reference's result. -/
def composed : Vec Ideal S4x3x416x416 .f32 :=
  Host.reduceAdd (F := Ideal) (mulf (pictures V0) (weights V0))
    (constant (F := Ideal) S_ .f32 0x00000000#32) reducesTo_S4x9x3x416x416_S4x3x416x416_d1 h_S_

/-- A sum over the second axis, at an index. -/
theorem sum_entries (u : Vec Ideal S4x9x3x416x416 .f32) (b : Fin 4) (ch : Fin 3) (y x : Fin 416) :
    (Host.reduceAdd (F := Ideal) u (constant (F := Ideal) S_ .f32 0x00000000#32) reducesTo_S4x9x3x416x416_S4x3x416x416_d1 h_S_ : Vec Ideal S4x3x416x416 .f32) (ix4 b ch y x)
      = ∑ k : Fin 9, u (ix5 b k ch y x) := by
  pointwise

/-- The 36 pictures seen as four batches of nine. -/
theorem cast_entries (g : Vec Ideal S36x3x416x416 .f32) (b : Fin 4) (k : Fin 9) (ch : Fin 3) (y x : Fin 416) :
    (shapeCast S4x9x3x416x416 g shapeCasts_S36x3x416x416_S4x9x3x416x416 : Vec Ideal S4x9x3x416x416 .f32) (ix5 b k ch y x)
      = g (ix4 (⟨b.val * 9 + k.val, by omega⟩ : Fin 36) ch y x) := by
  pointwise

/-- The picture of an entry of a batch. -/
theorem pictures_at (b : Fin 4) (k : Fin 9) (ch : Fin 3) (y x : Fin 416) :
    pictures V0 (ix5 b k ch y x) = pictures33 V0 (ix4 (row b k) ch y x) :=
  (cast_entries (pictures36 V0) b k ch y x).trans (pictures36_at V0 b k ch y x)

/-- A product of arrays, at an index. -/
theorem mulf_entries (u v : Vec Ideal S4x9x3x416x416 .f32) (i : S4x9x3x416x416.Idx) :
    (mulf (F := Ideal) (φ := .f32) u v : Vec Ideal S4x9x3x416x416 .f32) i = u i * v i := rfl

/-- An entry's picture times its weight. -/
theorem entry_at (b : Fin 4) (k : Fin 9) (ch : Fin 3) (y x : Fin 416) :
    (mulf (F := Ideal) (φ := .f32) (pictures V0) (weights V0) : Vec Ideal S4x9x3x416x416 .f32) (ix5 b k ch y x)
      = pictures33 V0 (ix4 (row b k) ch y x) * Ideal.div (powers V0 (ix3 b k 0)) (∑ i : Fin 9, powers V0 (ix3 b i 0)) := by
  rw [mulf_entries, pictures_at, weights_at]

/-- An object's picture among the 33. -/
theorem pictures33_object (b : Fin 4) (a : Fin 8) (ch : Fin 3) (y x : Fin 416) :
    pictures33 V0 (ix4 (row b a.succ) ch y x) = samples V0 (ix4 (⟨8 * b.val + a.val, by omega⟩ : Fin 32) y x ch) := by
  have hr : (row b a.succ).val = 8 * b.val + a.val + 1 := rfl
  rw [pictures33_at, dif_neg (by omega)]
  exact congrArg (fun n => samples V0 (ix4 n y x ch)) (Fin.ext (by show (row b a.succ).val - 1 = 8 * b.val + a.val; omega))

/-- The empty picture. -/
theorem pictures33_background (b : Fin 4) (ch : Fin 3) (y x : Fin 416) : pictures33 V0 (ix4 (row b 0) ch y x) = 0 := by
  rw [pictures33_at, dif_pos (show (row b 0).val < 1 from Nat.zero_lt_one)]

/-- THE REFERENCE'S RESULT at a canvas pixel: the objects' samples, weighted by their shares. -/
theorem composed_at (b : Fin 4) (ch : Fin 3) (y x : Fin 416) : composed V0 (ix4 b ch y x)
    = ∑ a : Fin 8, samples V0 (ix4 (⟨8 * b.val + a.val, by omega⟩ : Fin 32) y x ch)
        * Ideal.div (powers V0 (ix3 b a.succ 0)) (∑ i : Fin 9, powers V0 (ix3 b i 0)) := by
  refine (sum_entries (mulf (F := Ideal) (φ := .f32) (pictures V0) (weights V0)) b ch y x).trans ?_
  rw [Finset.sum_congr rfl fun k _ => entry_at V0 b k ch y x, Fin.sum_univ_succ, pictures33_background, zero_mul, zero_add]
  exact Finset.sum_congr rfl fun a _ => by rw [pictures33_object]

end Cert.ReferenceIdeal.Hand

end
-- ==== Proof.Equation.lean ====
/- The equation: at every canvas pixel the idealized kernel's result is the reference's, where no depth is +∞. -/
module

public import proofs.«01_k».proof.Proof.Ideal.KernelValue
public import proofs.«01_k».proof.Proof.Ref.Taps
public import proofs.«01_k».proof.Proof.Ref.Composed

@[expose] public section

set_option maxRecDepth 16384

noncomputable section

namespace Cert.Proof

open Idealize.ShloMosaic Idealize.ShloMosaic.TcCoe Cert.Compose Cert.KernelIdeal.Hand Cert.ReferenceIdeal.Hand

/-- The places of the two programs along one axis: one real number, or both infinite. -/
theorem place_axis (x s : EReal) (p : Fin 416) :
    (∃ r : ℝ, srcAt x s p.val = r ∧ placeR (centre x) (extent s) p.val = r) ∨ (Inf (srcAt x s p.val) ∧ Inf (placeR (centre x) (extent s) p.val)) := by
  rw [srcAt_eq]
  exact place_agree (coord p.val) (coord_ne p.val) (centre x) (extent s)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same arrays (the one the programs do not read left out). -/
def SameArguments : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The reference's arrays at its start, on a device. -/
def start : Valuation Cert.ReferenceIdeal.τ Cert.ReferenceIdeal.sig (Elt Ideal) := StableHlo.launchContents m' c

variable {m m' c} (h : SameArguments m m' c)
include h

/-- The placements are the same numbers in the two programs. -/
theorem placements_same (b : Fin 4) (a : Fin 8) (k : Fin 4) : placements (start m' c) (ix3 b a k) = placeOf m c b a k :=
  congrFun h.1 (ix3 b a k)

/-- The depths are the same numbers in the two programs. -/
theorem depths_same (b : Fin 4) (a : Fin 8) : depths (start m' c) (ix3 b a 0) = depthOf m c b a :=
  congrFun h.2.2.1 (ix3 b a (0 : Fin 1))

/-- The four placement numbers, read through an object's number among all. -/
theorem placements_obj (b : Fin 4) (a : Fin 8) (k k' : Fin 4) (hk : k' = k) :
    placements (start m' c) (ix3 (⟨(obj b a).val / 8, by omega⟩ : Fin 4) (⟨(obj b a).val % 8, by omega⟩ : Fin 8) k') = placeOf m c b a k := by
  have e : ∀ (p : Fin 4) (q : Fin 8), p = b → q = a → placements (start m' c) (ix3 p q k') = placeOf m c b a k := by
    rintro p q rfl rfl
    rw [placements_same h, hk]
  exact e _ _ (Fin.ext (by show (8 * b.val + a.val) / 8 = b.val; omega)) (Fin.ext (by show (8 * b.val + a.val) % 8 = a.val; omega))

/-- The horizontal places. -/
theorem placesX_same (b : Fin 4) (a : Fin 8) (y x : Fin 416) : placesX (start m' c) (ix3 (obj b a) y x)
    = placeR (centre (placeOf m c b a 0)) (extent (placeOf m c b a 2)) x.val := by
  rw [placeX_at, centre_at, extent_at]
  exact congrArg₂ (fun u v : EReal => placeR (centre u) (extent v) x.val) (placements_obj h b a 0 _ rfl) (placements_obj h b a 2 _ rfl)

/-- The vertical places. -/
theorem placesY_same (b : Fin 4) (a : Fin 8) (y x : Fin 416) : placesY (start m' c) (ix3 (obj b a) y x)
    = placeR (centre (placeOf m c b a 1)) (extent (placeOf m c b a 3)) y.val := by
  rw [placeY_at, centre_at, extent_at]
  exact congrArg₂ (fun u v : EReal => placeR (centre u) (extent v) y.val) (placements_obj h b a 1 _ rfl) (placements_obj h b a 3 _ rfl)

/-- The decoded patches. -/
theorem patches_same (n : Fin 32) (ch : Fin 3) (k l : Fin 64) : patches (start m' c) (ix4 n ch k l)
    = exit0 m c Cert.KernelIdeal.main_call0_v4_0 (ix2 n (⟨ch.val * 4096 + k.val * 64 + l.val, by omega⟩ : Fin 12288)) := by
  obtain ⟨-, h2, -, h4, h5, h6, h7⟩ := h
  rw [decoded_at, pixel_at, ← h2, ← h4, ← h5, ← h6, ← h7]
  rfl

/-- The shares. -/
theorem weights_same (hd : ∀ (b : Fin 4) (a : Fin 8), depthOf m c b a < ⊤) (b : Fin 4) (a : Fin 8) :
    Ideal.div (powers (start m' c) (ix3 b a.succ 0)) (∑ i : Fin 9, powers (start m' c) (ix3 b i 0)) = (share (depthOf m c b) a : EReal) := by
  simp only [powers_at]
  exact share_reference (depthOf m c b) (hd b) (fun k => entries (start m' c) (ix3 b k 0)) (entries_background _ b)
    (fun x => (entries_object _ b x).trans (depths_same h b x)) a

/-- THE EQUATION, at a canvas pixel. -/
theorem pixel_same (hd : ∀ (b : Fin 4) (a : Fin 8), depthOf m c b a < ⊤) (b : Fin 4) (ch : Fin 3) (y x : Fin 416) :
    composed (start m' c) (ix4 b ch y x) = (Cert.KernelIdeal.Hand.mergeDat (entry1 m) c).arrAt 3 Cert.KernelIdeal.cfg1.N (ix4 b ch y x) := by
  rw [result_at, composed_at]
  refine Finset.sum_congr rfl fun a _ => ?_
  rw [weights_same h hd b a, share_at m c b a (hd b)]
  show samples (start m' c) (ix4 (obj b a) y x ch) * _ = _
  rw [samples_at, placesX_same h, placesY_same h]
  choose f hf using fun k l : Fin 64 => (⟨_, (decoded_at m c (obj b a) (⟨ch.val * 4096 + k.val * 64 + l.val, by omega⟩ : Fin 12288)).trans (logistic_real _).choose_spec⟩ :
    ∃ r : ℝ, exit0 m c Cert.KernelIdeal.main_call0_v4_0 (ix2 (obj b a) (⟨ch.val * 4096 + k.val * 64 + l.val, by omega⟩ : Fin 12288)) = ((r : ℝ) : EReal))
  have hp : (fun k l => patches (start m' c) (ix4 (obj b a) ch k l)) = fun k l => ((f k l : ℝ) : EReal) :=
    funext fun k => funext fun l => (patches_same h (obj b a) ch k l).trans (hf k l)
  rw [hp]
  simp only [hf]
  exact (object_agree f (share_nonneg (depthOf m c b) a) (place_axis _ _ y) (place_axis _ _ x)).symm

/-- The two results are one array. -/
theorem result_same (hd : ∀ (b : Fin 4) (a : Fin 8), depthOf m c b a < ⊤) :
    composed (start m' c) = (Cert.KernelIdeal.Hand.mergeDat (entry1 m) c).arrAt 3 Cert.KernelIdeal.cfg1.N :=
  funext fun i => by
    have e : ∀ i : Cert.ReferenceIdeal.S4x3x416x416.Idx, i = ix4 (i 0) (i 1) (i 2) (i 3) := by
      intro i; funext k; fin_cases k <;> rfl
    rw [e i]
    exact pixel_same h hd _ _ _ _

end

end Cert.Proof

end
-- ==== Proof.Algebraic.lean ====
/- The idealized kernel and the reference leave the same canvas, where no depth is +∞. -/
module

public import proofs.«01_k».proof.Defs
public import proofs.«01_k».proof.Proof.Frames
public import proofs.«01_k».proof.Proof.Equation
public import Idealize.ShloMosaic.Lib.ReduceAll

@[expose] public section

set_option maxRecDepth 16384

noncomputable section

namespace Cert.Proof

open Idealize.ShloMosaic Idealize.ShloMosaic.TcCoe Idealize.SL.Sem Cert.Compose Cert.KernelIdeal.Hand Cert.ReferenceIdeal.Hand

/-- The shapes of the precondition's operations fit. -/
instance preFacts : Cert.Pre_depth_below_infinity.Facts where
  bcast_S_S4x8x1 := by decide
  reducesTo_S4x8x1_S_d0_1_2 := by decide
  h_S_ := by decide

/-- The precondition says that every depth is below +∞. -/
theorem depths_below (m : (ℓ : Loc Cert.KernelIdeal.nD Cert.KernelIdeal.τ Cert.KernelIdeal.sig) → Buf (Elt Ideal) ℓ)
    (h : Cert.Pre_KernelIdeal_depth_below_infinity m) (c : Dev Cert.KernelIdeal.nD) (b : Fin 4) (a : Fin 8) : depthOf m c b a < ⊤ := by
  have := Host.reduce_andi_all _ _ _ _ (fun k => k.elim0) (congrFun (h c) (fun k => k.elim0)) (ix3 b a (0 : Fin 1))
  have e : BitVec.ofBool (decide (depthOf m c b a < Ideal.ofBits .f32 0x7F800000#32)) = 1#1 := this
  have ht : Ideal.ofBits .f32 0x7F800000#32 = (⊤ : EReal) := by simp [Ideal.ofBits, Ideal.ieee]
  rw [ht] at e
  by_contra hn
  rw [decide_eq_false hn] at e
  exact absurd e (by decide)

/-- The reference leaves `composed` of its arrays at the start. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD, r.2.mem ((c.tc : Thread Cert.ReferenceIdeal.nD Cert.ReferenceIdeal.τ).loc Cert.ReferenceIdeal.main_v305) = composed (start m' c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  Cert.ReferenceIdeal.Value.run (F := Ideal) m' g'

/-- THE VALUE CLAIM. -/
theorem algebraic : Cert.algebraic_KernelIdeal_ReferenceIdeal_pre_depth_below_infinity
    (hKernelIdeal := Cert.KernelIdeal.Gen.facts) (hReferenceIdeal := Cert.ReferenceIdeal.Gen.facts) (hPre_depth_below_infinity := preFacts) := by
  intro m g m' g' hpre hsame
  refine ⟨_, θ_run_mono (Cert.KernelIdeal.Hand.run m g) fun r h => h.1, ?_⟩
  refine θ_run_mono (reference_run m' g') fun r h c => ?_
  obtain ⟨hv, hargs⟩ := h c
  obtain ⟨h0, -, h2, h3, h4, h5, h6, h7⟩ := hsame c
  exact ⟨hv.trans (result_same ⟨h0, h2, h3, h4, h5, h6, h7⟩ (depths_below m hpre c)), hargs⟩

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Proof.preFacts,
    frame_kernel, frame_ideal, fun m ρ _ => frame_ideal m ρ trivial, frame_reference, fun m ρ _ => frame_reference m ρ trivial, preserves, algebraic⟩

end Cert.Proof

end
